-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1))
      ∧ r.2.sem = fun _ => 0)

def preserves_Kernel_KernelIdeal : Prop :=
  IdealRules.bf16_pair.BufferStatement Cert.KernelIdeal.S64x2x1024 Cert.KernelIdeal.S64x1x1024
  ∧ IdealRules.bf16_pair.BufferStatement Cert.KernelIdeal.S58x64x2x128 Cert.KernelIdeal.S58x64x1x128
  ∧ IdealRules.bf16_pair.Statement Cert.KernelIdeal.S128x1024 Cert.KernelIdeal.S64x1024
  ∧ IdealRules.bf16_pair.Statement Cert.KernelIdeal.S64x2x1024 Cert.KernelIdeal.S64x1x1024
  ∧ IdealRules.bf16_pair.PackStatement Cert.KernelIdeal.S64x128
  ∧ IdealRules.bf16_pair.Statement Cert.KernelIdeal.S1x64x2x128 Cert.KernelIdeal.S1x64x1x128
  ∧ IdealRules.bf16_pair.Statement Cert.KernelIdeal.S1x1x2x128 Cert.KernelIdeal.S1x1x1x128
  ∧ IdealRules.bf16_pair.Statement Cert.KernelIdeal.S2x128 Cert.KernelIdeal.S1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v2) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineReferenceIdeal : Cert.CombineReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ preserves_Kernel_KernelIdeal
    ∧ algebraic_KernelIdeal_ReferenceIdeal (hKernelIdeal := hKernelIdeal) (hReferenceIdeal := hReferenceIdeal)
    ∧ preserves_Combine_CombineIdeal
    ∧ algebraic_CombineIdeal_CombineReferenceIdeal (hCombineIdeal := hCombineIdeal) (hCombineReferenceIdeal := hCombineReferenceIdeal)
-- ==== Kernel.lean ====
abbrev S128x1x8192 : Shape := ⟨3, ![128, 1, 8192]⟩
abbrev S4096x7424 : Shape := ⟨2, ![4096, 7424]⟩
abbrev S512x7424 : Shape := ⟨2, ![512, 7424]⟩
abbrev S128x8192 : Shape := ⟨2, ![128, 8192]⟩
abbrev S128x7424 : Shape := ⟨2, ![128, 7424]⟩
abbrev S128x1024 : Shape := ⟨2, ![128, 1024]⟩
abbrev S64x7424 : Shape := ⟨2, ![64, 7424]⟩
abbrev S64x1024 : Shape := ⟨2, ![64, 1024]⟩
abbrev S58x64x128 : Shape := ⟨3, ![58, 64, 128]⟩
abbrev S64x128 : Shape := ⟨2, ![64, 128]⟩
abbrev S1x64x128 : Shape := ⟨3, ![1, 64, 128]⟩
abbrev S32x128 : Shape := ⟨2, ![32, 128]⟩
abbrev S16x128 : Shape := ⟨2, ![16, 128]⟩
abbrev S1x1x128 : Shape := ⟨3, ![1, 1, 128]⟩
abbrev S1x128 : Shape := ⟨2, ![1, 128]⟩
abbrev S2x128 : Shape := ⟨2, ![2, 128]⟩
abbrev S1024x128 : Shape := ⟨2, ![1024, 128]⟩
abbrev S1024x256 : Shape := ⟨2, ![1024, 256]⟩
abbrev S128x256 : Shape := ⟨2, ![128, 256]⟩

abbrev nBuf : Space → Nat
  | .hbm => 6
  | .vmem => 12
  | .smem => 0
  | _ => 0

abbrev bufTy : (tb : Table) → Fin (tcTables nBuf tb) → BufTy
  | .hbm, ⟨0, _⟩ => ⟨S128x1x8192, .bf16⟩
  | .hbm, ⟨1, _⟩ => ⟨S4096x7424, .i8⟩
  | .hbm, ⟨2, _⟩ => ⟨S512x7424, .bf16⟩
  | .hbm, ⟨3, _⟩ => ⟨S512x7424, .i8⟩
  | .hbm, ⟨4, _⟩ => ⟨S128x8192, .bf16⟩
  | .hbm, ⟨5, _⟩ => ⟨S128x7424, .f32⟩
  | .local _ .vmem, ⟨0, _⟩ => ⟨S128x1024, .bf16⟩
  | .local _ .vmem, ⟨1, _⟩ => ⟨S128x1024, .bf16⟩
  | .local _ .vmem, ⟨2, _⟩ => ⟨S512x7424, .i8⟩
  | .local _ .vmem, ⟨3, _⟩ => ⟨S512x7424, .i8⟩
  | .local _ .vmem, ⟨4, _⟩ => ⟨S64x7424, .bf16⟩
  | .local _ .vmem, ⟨5, _⟩ => ⟨S64x7424, .bf16⟩
  | .local _ .vmem, ⟨6, _⟩ => ⟨S64x7424, .i8⟩
  | .local _ .vmem, ⟨7, _⟩ => ⟨S64x7424, .i8⟩
  | .local _ .vmem, ⟨8, _⟩ => ⟨S128x7424, .f32⟩
  | .local _ .vmem, ⟨9, _⟩ => ⟨S64x1024, .i32⟩
  | .local _ .vmem, ⟨10, _⟩ => ⟨S58x64x128, .i32⟩
  | .local _ .vmem, ⟨11, _⟩ => ⟨S58x64x128, .i32⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [BitOps F]

abbrev grid0 : Pipeline.Grid := ⟨1, ![8], ![false]⟩

@[reducible] def k0_t1_loop : Scf.Loop 32 :=
  let c0_i32_4 : BitVec 32 := 0#32
  let c29_i32 : BitVec 32 := 29#32
  let v9 : BitVec 32 := Scalar.addi c0_i32_4 c29_i32
  let c1_i32 : BitVec 32 := 1#32
  ⟨c0_i32_4, v9, c1_i32⟩
def k0_mult1 (k0_t1 : Fin k0_t1_loop.trips) : BitVec 32 :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let c0_i32_8 : BitVec 32 := 0#32
  let v13 : BitVec 32 := Scalar.addi v12 c0_i32_8
  let c128_i32 : BitVec 32 := 128#32
  let v14 : BitVec 32 := Scalar.muli v13 c128_i32
  v14
def k0_off1 (k0_t1 : Fin k0_t1_loop.trips) (c0_i32_8 : BitVec 32) : Fin 2 → Nat :=
  let c0_9 : Index := 0#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v16 : Index := Scalar.indexCast v15
  ![0, v16.toNat]
def k0_off2 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v20 : Index := Scalar.indexCast v13
  let c0_10 : Index := 0#32
  let c0_11 : Index := 0#32
  ![v20.toNat, 0, 0]
def k0_off3 (k0_t1 : Fin k0_t1_loop.trips) (c0_i32_8 : BitVec 32) : Fin 2 → Nat :=
  let c0_15 : Index := 0#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v33 : Index := Scalar.indexCast v15
  ![0, v33.toNat]
def k0_off4 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v46 : Index := Scalar.indexCast v13
  let c0_16 : Index := 0#32
  let c0_17 : Index := 0#32
  ![v46.toNat, 0, 0]
def k0_off5 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v63 : Index := Scalar.indexCast v13
  let c1 : Index := 1#32
  let c0_20 : Index := 0#32
  ![v63.toNat, 1, 0]
def k0_off6 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v80 : Index := Scalar.indexCast v13
  let c2 : Index := 2#32
  let c0_23 : Index := 0#32
  ![v80.toNat, 2, 0]
def k0_off7 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v97 : Index := Scalar.indexCast v13
  let c3 : Index := 3#32
  let c0_26 : Index := 0#32
  ![v97.toNat, 3, 0]
def k0_off8 (k0_t1 : Fin k0_t1_loop.trips) (c0_i32_8 : BitVec 32) : Fin 2 → Nat :=
  let c32 : Index := 32#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v113 : Index := Scalar.indexCast v15
  ![32, v113.toNat]
def k0_off9 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v126 : Index := Scalar.indexCast v13
  let c4 : Index := 4#32
  let c0_32 : Index := 0#32
  ![v126.toNat, 4, 0]
def k0_off10 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v143 : Index := Scalar.indexCast v13
  let c5 : Index := 5#32
  let c0_35 : Index := 0#32
  ![v143.toNat, 5, 0]
def k0_off11 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v160 : Index := Scalar.indexCast v13
  let c6 : Index := 6#32
  let c0_38 : Index := 0#32
  ![v160.toNat, 6, 0]
def k0_off12 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v177 : Index := Scalar.indexCast v13
  let c7 : Index := 7#32
  let c0_41 : Index := 0#32
  ![v177.toNat, 7, 0]
def k0_off13 (k0_t1 : Fin k0_t1_loop.trips) (c0_i32_8 : BitVec 32) : Fin 2 → Nat :=
  let c64 : Index := 64#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v193 : Index := Scalar.indexCast v15
  ![64, v193.toNat]
def k0_off14 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v206 : Index := Scalar.indexCast v13
  let c8 : Index := 8#32
  let c0_47 : Index := 0#32
  ![v206.toNat, 8, 0]
def k0_off15 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v223 : Index := Scalar.indexCast v13
  let c9 : Index := 9#32
  let c0_50 : Index := 0#32
  ![v223.toNat, 9, 0]
def k0_off16 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v240 : Index := Scalar.indexCast v13
  let c10 : Index := 10#32
  let c0_53 : Index := 0#32
  ![v240.toNat, 10, 0]
def k0_off17 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v257 : Index := Scalar.indexCast v13
  let c11 : Index := 11#32
  let c0_56 : Index := 0#32
  ![v257.toNat, 11, 0]
def k0_off18 (k0_t1 : Fin k0_t1_loop.trips) (c0_i32_8 : BitVec 32) : Fin 2 → Nat :=
  let c96 : Index := 96#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v273 : Index := Scalar.indexCast v15
  ![96, v273.toNat]
def k0_off19 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v286 : Index := Scalar.indexCast v13
  let c12 : Index := 12#32
  let c0_62 : Index := 0#32
  ![v286.toNat, 12, 0]
def k0_off20 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v303 : Index := Scalar.indexCast v13
  let c13 : Index := 13#32
  let c0_65 : Index := 0#32
  ![v303.toNat, 13, 0]
def k0_off21 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v320 : Index := Scalar.indexCast v13
  let c14 : Index := 14#32
  let c0_68 : Index := 0#32
  ![v320.toNat, 14, 0]
def k0_off22 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v337 : Index := Scalar.indexCast v13
  let c15 : Index := 15#32
  let c0_71 : Index := 0#32
  ![v337.toNat, 15, 0]
def k0_off23 (k0_t1 : Fin k0_t1_loop.trips) (c0_i32_8 : BitVec 32) : Fin 2 → Nat :=
  let c128 : Index := 128#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v353 : Index := Scalar.indexCast v15
  ![128, v353.toNat]
def k0_off24 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v366 : Index := Scalar.indexCast v13
  let c16 : Index := 16#32
  let c0_77 : Index := 0#32
  ![v366.toNat, 16, 0]
def k0_off25 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v383 : Index := Scalar.indexCast v13
  let c17 : Index := 17#32
  let c0_80 : Index := 0#32
  ![v383.toNat, 17, 0]
def k0_off26 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v400 : Index := Scalar.indexCast v13
  let c18 : Index := 18#32
  let c0_83 : Index := 0#32
  ![v400.toNat, 18, 0]
def k0_off27 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v417 : Index := Scalar.indexCast v13
  let c19 : Index := 19#32
  let c0_86 : Index := 0#32
  ![v417.toNat, 19, 0]
def k0_off28 (k0_t1 : Fin k0_t1_loop.trips) (c0_i32_8 : BitVec 32) : Fin 2 → Nat :=
  let c160 : Index := 160#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v433 : Index := Scalar.indexCast v15
  ![160, v433.toNat]
def k0_off29 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v446 : Index := Scalar.indexCast v13
  let c20 : Index := 20#32
  let c0_92 : Index := 0#32
  ![v446.toNat, 20, 0]
def k0_off30 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v463 : Index := Scalar.indexCast v13
  let c21 : Index := 21#32
  let c0_95 : Index := 0#32
  ![v463.toNat, 21, 0]
def k0_off31 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v480 : Index := Scalar.indexCast v13
  let c22 : Index := 22#32
  let c0_98 : Index := 0#32
  ![v480.toNat, 22, 0]
def k0_off32 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v497 : Index := Scalar.indexCast v13
  let c23 : Index := 23#32
  let c0_101 : Index := 0#32
  ![v497.toNat, 23, 0]
def k0_off33 (k0_t1 : Fin k0_t1_loop.trips) (c0_i32_8 : BitVec 32) : Fin 2 → Nat :=
  let c192 : Index := 192#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v513 : Index := Scalar.indexCast v15
  ![192, v513.toNat]
def k0_off34 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v526 : Index := Scalar.indexCast v13
  let c24 : Index := 24#32
  let c0_107 : Index := 0#32
  ![v526.toNat, 24, 0]
def k0_off35 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v543 : Index := Scalar.indexCast v13
  let c25 : Index := 25#32
  let c0_110 : Index := 0#32
  ![v543.toNat, 25, 0]
def k0_off36 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v560 : Index := Scalar.indexCast v13
  let c26 : Index := 26#32
  let c0_113 : Index := 0#32
  ![v560.toNat, 26, 0]
def k0_off37 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v577 : Index := Scalar.indexCast v13
  let c27 : Index := 27#32
  let c0_116 : Index := 0#32
  ![v577.toNat, 27, 0]
def k0_off38 (k0_t1 : Fin k0_t1_loop.trips) (c0_i32_8 : BitVec 32) : Fin 2 → Nat :=
  let c224 : Index := 224#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v593 : Index := Scalar.indexCast v15
  ![224, v593.toNat]
def k0_off39 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v606 : Index := Scalar.indexCast v13
  let c28 : Index := 28#32
  let c0_122 : Index := 0#32
  ![v606.toNat, 28, 0]
def k0_off40 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v623 : Index := Scalar.indexCast v13
  let c29 : Index := 29#32
  let c0_125 : Index := 0#32
  ![v623.toNat, 29, 0]
def k0_off41 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v640 : Index := Scalar.indexCast v13
  let c30 : Index := 30#32
  let c0_128 : Index := 0#32
  ![v640.toNat, 30, 0]
def k0_off42 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v657 : Index := Scalar.indexCast v13
  let c31 : Index := 31#32
  let c0_131 : Index := 0#32
  ![v657.toNat, 31, 0]
def k0_off43 (k0_t1 : Fin k0_t1_loop.trips) (c0_i32_8 : BitVec 32) : Fin 2 → Nat :=
  let c256 : Index := 256#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v673 : Index := Scalar.indexCast v15
  ![256, v673.toNat]
def k0_off44 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v686 : Index := Scalar.indexCast v13
  let c32_137 : Index := 32#32
  let c0_138 : Index := 0#32
  ![v686.toNat, 32, 0]
def k0_off45 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v703 : Index := Scalar.indexCast v13
  let c33 : Index := 33#32
  let c0_141 : Index := 0#32
  ![v703.toNat, 33, 0]
def k0_off46 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v720 : Index := Scalar.indexCast v13
  let c34 : Index := 34#32
  let c0_144 : Index := 0#32
  ![v720.toNat, 34, 0]
def k0_off47 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v737 : Index := Scalar.indexCast v13
  let c35 : Index := 35#32
  let c0_147 : Index := 0#32
  ![v737.toNat, 35, 0]
def k0_off48 (k0_t1 : Fin k0_t1_loop.trips) (c0_i32_8 : BitVec 32) : Fin 2 → Nat :=
  let c288 : Index := 288#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v753 : Index := Scalar.indexCast v15
  ![288, v753.toNat]
def k0_off49 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v766 : Index := Scalar.indexCast v13
  let c36 : Index := 36#32
  let c0_153 : Index := 0#32
  ![v766.toNat, 36, 0]
def k0_off50 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v783 : Index := Scalar.indexCast v13
  let c37 : Index := 37#32
  let c0_156 : Index := 0#32
  ![v783.toNat, 37, 0]
def k0_off51 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v800 : Index := Scalar.indexCast v13
  let c38 : Index := 38#32
  let c0_159 : Index := 0#32
  ![v800.toNat, 38, 0]
def k0_off52 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v817 : Index := Scalar.indexCast v13
  let c39 : Index := 39#32
  let c0_162 : Index := 0#32
  ![v817.toNat, 39, 0]
def k0_off53 (k0_t1 : Fin k0_t1_loop.trips) (c0_i32_8 : BitVec 32) : Fin 2 → Nat :=
  let c320 : Index := 320#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v833 : Index := Scalar.indexCast v15
  ![320, v833.toNat]
def k0_off54 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v846 : Index := Scalar.indexCast v13
  let c40 : Index := 40#32
  let c0_168 : Index := 0#32
  ![v846.toNat, 40, 0]
def k0_off55 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v863 : Index := Scalar.indexCast v13
  let c41 : Index := 41#32
  let c0_171 : Index := 0#32
  ![v863.toNat, 41, 0]
def k0_off56 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v880 : Index := Scalar.indexCast v13
  let c42 : Index := 42#32
  let c0_174 : Index := 0#32
  ![v880.toNat, 42, 0]
def k0_off57 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v897 : Index := Scalar.indexCast v13
  let c43 : Index := 43#32
  let c0_177 : Index := 0#32
  ![v897.toNat, 43, 0]
def k0_off58 (k0_t1 : Fin k0_t1_loop.trips) (c0_i32_8 : BitVec 32) : Fin 2 → Nat :=
  let c352 : Index := 352#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v913 : Index := Scalar.indexCast v15
  ![352, v913.toNat]
def k0_off59 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v926 : Index := Scalar.indexCast v13
  let c44 : Index := 44#32
  let c0_183 : Index := 0#32
  ![v926.toNat, 44, 0]
def k0_off60 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v943 : Index := Scalar.indexCast v13
  let c45 : Index := 45#32
  let c0_186 : Index := 0#32
  ![v943.toNat, 45, 0]
def k0_off61 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v960 : Index := Scalar.indexCast v13
  let c46 : Index := 46#32
  let c0_189 : Index := 0#32
  ![v960.toNat, 46, 0]
def k0_off62 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v977 : Index := Scalar.indexCast v13
  let c47 : Index := 47#32
  let c0_192 : Index := 0#32
  ![v977.toNat, 47, 0]
def k0_off63 (k0_t1 : Fin k0_t1_loop.trips) (c0_i32_8 : BitVec 32) : Fin 2 → Nat :=
  let c384 : Index := 384#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v993 : Index := Scalar.indexCast v15
  ![384, v993.toNat]
def k0_off64 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1006 : Index := Scalar.indexCast v13
  let c48 : Index := 48#32
  let c0_198 : Index := 0#32
  ![v1006.toNat, 48, 0]
def k0_off65 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1023 : Index := Scalar.indexCast v13
  let c49 : Index := 49#32
  let c0_201 : Index := 0#32
  ![v1023.toNat, 49, 0]
def k0_off66 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1040 : Index := Scalar.indexCast v13
  let c50 : Index := 50#32
  let c0_204 : Index := 0#32
  ![v1040.toNat, 50, 0]
def k0_off67 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1057 : Index := Scalar.indexCast v13
  let c51 : Index := 51#32
  let c0_207 : Index := 0#32
  ![v1057.toNat, 51, 0]
def k0_off68 (k0_t1 : Fin k0_t1_loop.trips) (c0_i32_8 : BitVec 32) : Fin 2 → Nat :=
  let c416 : Index := 416#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v1073 : Index := Scalar.indexCast v15
  ![416, v1073.toNat]
def k0_off69 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1086 : Index := Scalar.indexCast v13
  let c52 : Index := 52#32
  let c0_213 : Index := 0#32
  ![v1086.toNat, 52, 0]
def k0_off70 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1103 : Index := Scalar.indexCast v13
  let c53 : Index := 53#32
  let c0_216 : Index := 0#32
  ![v1103.toNat, 53, 0]
def k0_off71 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1120 : Index := Scalar.indexCast v13
  let c54 : Index := 54#32
  let c0_219 : Index := 0#32
  ![v1120.toNat, 54, 0]
def k0_off72 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1137 : Index := Scalar.indexCast v13
  let c55 : Index := 55#32
  let c0_222 : Index := 0#32
  ![v1137.toNat, 55, 0]
def k0_off73 (k0_t1 : Fin k0_t1_loop.trips) (c0_i32_8 : BitVec 32) : Fin 2 → Nat :=
  let c448 : Index := 448#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v1153 : Index := Scalar.indexCast v15
  ![448, v1153.toNat]
def k0_off74 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1166 : Index := Scalar.indexCast v13
  let c56 : Index := 56#32
  let c0_228 : Index := 0#32
  ![v1166.toNat, 56, 0]
def k0_off75 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1183 : Index := Scalar.indexCast v13
  let c57 : Index := 57#32
  let c0_231 : Index := 0#32
  ![v1183.toNat, 57, 0]
def k0_off76 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1200 : Index := Scalar.indexCast v13
  let c58 : Index := 58#32
  let c0_234 : Index := 0#32
  ![v1200.toNat, 58, 0]
def k0_off77 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1217 : Index := Scalar.indexCast v13
  let c59 : Index := 59#32
  let c0_237 : Index := 0#32
  ![v1217.toNat, 59, 0]
def k0_off78 (k0_t1 : Fin k0_t1_loop.trips) (c0_i32_8 : BitVec 32) : Fin 2 → Nat :=
  let c480 : Index := 480#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v1233 : Index := Scalar.indexCast v15
  ![480, v1233.toNat]
def k0_off79 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1246 : Index := Scalar.indexCast v13
  let c60 : Index := 60#32
  let c0_243 : Index := 0#32
  ![v1246.toNat, 60, 0]
def k0_off80 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1263 : Index := Scalar.indexCast v13
  let c61 : Index := 61#32
  let c0_246 : Index := 0#32
  ![v1263.toNat, 61, 0]
def k0_off81 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1280 : Index := Scalar.indexCast v13
  let c62 : Index := 62#32
  let c0_249 : Index := 0#32
  ![v1280.toNat, 62, 0]
def k0_off82 (k0_t1 : Fin k0_t1_loop.trips) (c0_i32_8 : BitVec 32) : Fin 3 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1297 : Index := Scalar.indexCast v13
  let c63 : Index := 63#32
  let c0_252 : Index := 0#32
  ![v1297.toNat, 63, 0]
def k0_mult2 (k0_t1 : Fin k0_t1_loop.trips) : BitVec 32 :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32_255 : BitVec 32 := 2#32
  let v1314 : BitVec 32 := Scalar.muli v11 c2_i32_255
  let c1_i32_256 : BitVec 32 := 1#32
  let v1315 : BitVec 32 := Scalar.addi v1314 c1_i32_256
  let c128_i32_257 : BitVec 32 := 128#32
  let v1316 : BitVec 32 := Scalar.muli v1315 c128_i32_257
  v1316
def k0_mult3 (k0_t1 : Fin k0_t1_loop.trips) : BitVec 32 :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c256_i32 : BitVec 32 := 256#32
  let v2619 : BitVec 32 := Scalar.muli v11 c256_i32
  v2619
def k0_off83 (k0_t1 : Fin k0_t1_loop.trips) : Fin 2 → Nat :=
  let c0_586 : Index := 0#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c256_i32 : BitVec 32 := 256#32
  let v2619 : BitVec 32 := Scalar.muli v11 c256_i32
  let v2620 : BitVec 32 := v2619
  let v2621 : Index := Scalar.indexCast v2620
  ![0, v2621.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x7424 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x7424 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x7424 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x7424 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
abbrev S128x1x8192 : Shape := ⟨3, ![128, 1, 8192]⟩
abbrev S4096x7424 : Shape := ⟨2, ![4096, 7424]⟩
abbrev S512x7424 : Shape := ⟨2, ![512, 7424]⟩
abbrev S128x8192 : Shape := ⟨2, ![128, 8192]⟩
abbrev S128x7424 : Shape := ⟨2, ![128, 7424]⟩
abbrev S128x1024 : Shape := ⟨2, ![128, 1024]⟩
abbrev S64x7424 : Shape := ⟨2, ![64, 7424]⟩
abbrev S64x1024 : Shape := ⟨2, ![64, 1024]⟩
abbrev S64x2x1024 : Shape := ⟨3, ![64, 2, 1024]⟩
abbrev S64x1x1024 : Shape := ⟨3, ![64, 1, 1024]⟩
abbrev S58x64x128 : Shape := ⟨3, ![58, 64, 128]⟩
abbrev S58x64x2x128 : Shape := ⟨4, ![58, 64, 2, 128]⟩
abbrev S58x64x1x128 : Shape := ⟨4, ![58, 64, 1, 128]⟩
abbrev S64x128 : Shape := ⟨2, ![64, 128]⟩
abbrev S1x64x128 : Shape := ⟨3, ![1, 64, 128]⟩
abbrev S1x64x2x128 : Shape := ⟨4, ![1, 64, 2, 128]⟩
abbrev S1x64x1x128 : Shape := ⟨4, ![1, 64, 1, 128]⟩
abbrev S32x128 : Shape := ⟨2, ![32, 128]⟩
abbrev S16x128 : Shape := ⟨2, ![16, 128]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S1x128 : Shape := ⟨2, ![1, 128]⟩
abbrev S2x128 : Shape := ⟨2, ![2, 128]⟩
abbrev S1024x128 : Shape := ⟨2, ![1024, 128]⟩
abbrev S1024x256 : Shape := ⟨2, ![1024, 256]⟩
abbrev S128x256 : Shape := ⟨2, ![128, 256]⟩

abbrev nBuf : Space → Nat
  | .hbm => 6
  | .vmem => 12
  | .smem => 0
  | _ => 0

abbrev bufTy : (tb : Table) → Fin (tcTables nBuf tb) → BufTy
  | .hbm, ⟨0, _⟩ => ⟨S128x1x8192, .bf16⟩
  | .hbm, ⟨1, _⟩ => ⟨S4096x7424, .i8⟩
  | .hbm, ⟨2, _⟩ => ⟨S512x7424, .bf16⟩
  | .hbm, ⟨3, _⟩ => ⟨S512x7424, .i8⟩
  | .hbm, ⟨4, _⟩ => ⟨S128x8192, .bf16⟩
  | .hbm, ⟨5, _⟩ => ⟨S128x7424, .f32⟩
  | .local _ .vmem, ⟨0, _⟩ => ⟨S128x1024, .bf16⟩
  | .local _ .vmem, ⟨1, _⟩ => ⟨S128x1024, .bf16⟩
  | .local _ .vmem, ⟨2, _⟩ => ⟨S512x7424, .i8⟩
  | .local _ .vmem, ⟨3, _⟩ => ⟨S512x7424, .i8⟩
  | .local _ .vmem, ⟨4, _⟩ => ⟨S64x7424, .bf16⟩
  | .local _ .vmem, ⟨5, _⟩ => ⟨S64x7424, .bf16⟩
  | .local _ .vmem, ⟨6, _⟩ => ⟨S64x7424, .i8⟩
  | .local _ .vmem, ⟨7, _⟩ => ⟨S64x7424, .i8⟩
  | .local _ .vmem, ⟨8, _⟩ => ⟨S128x7424, .f32⟩
  | .local _ .vmem, ⟨9, _⟩ => ⟨S64x2x1024, .bf16⟩
  | .local _ .vmem, ⟨10, _⟩ => ⟨S58x64x2x128, .bf16⟩
  | .local _ .vmem, ⟨11, _⟩ => ⟨S58x64x2x128, .bf16⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_4 : BitVec 32 := 0#32
  let c29_i32 : BitVec 32 := 29#32
  let v9 : BitVec 32 := Scalar.addi c0_i32_4 c29_i32
  let c1_i32 : BitVec 32 := 1#32
  ⟨c0_i32_4, v9, c1_i32⟩
def k0_mult1 (k0_t1 : Fin k0_t1_loop.trips) : BitVec 32 :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let c0_i32_8 : BitVec 32 := 0#32
  let v13 : BitVec 32 := Scalar.addi v12 c0_i32_8
  let c128_i32 : BitVec 32 := 128#32
  let v14 : BitVec 32 := Scalar.muli v13 c128_i32
  v14
def k0_off1 (k0_t1 : Fin k0_t1_loop.trips) (c0_i32_8 : BitVec 32) : Fin 2 → Nat :=
  let c0_9 : Index := 0#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v16 : Index := Scalar.indexCast v15
  ![0, v16.toNat]
def k0_off2 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v20 : Index := Scalar.indexCast v13
  let c0_10 : Index := 0#32
  let c0_11 : Index := 0#32
  ![v20.toNat, 0, 0, 0]
def k0_off3 (k0_t1 : Fin k0_t1_loop.trips) (c0_i32_8 : BitVec 32) : Fin 2 → Nat :=
  let c0_15 : Index := 0#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v33 : Index := Scalar.indexCast v15
  ![0, v33.toNat]
def k0_off4 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v46 : Index := Scalar.indexCast v13
  let c0_16 : Index := 0#32
  let c0_17 : Index := 0#32
  ![v46.toNat, 0, 0, 0]
def k0_off5 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v63 : Index := Scalar.indexCast v13
  let c1 : Index := 1#32
  let c0_20 : Index := 0#32
  ![v63.toNat, 1, 0, 0]
def k0_off6 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v80 : Index := Scalar.indexCast v13
  let c2 : Index := 2#32
  let c0_23 : Index := 0#32
  ![v80.toNat, 2, 0, 0]
def k0_off7 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v97 : Index := Scalar.indexCast v13
  let c3 : Index := 3#32
  let c0_26 : Index := 0#32
  ![v97.toNat, 3, 0, 0]
def k0_off8 (k0_t1 : Fin k0_t1_loop.trips) (c0_i32_8 : BitVec 32) : Fin 2 → Nat :=
  let c32 : Index := 32#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v113 : Index := Scalar.indexCast v15
  ![32, v113.toNat]
def k0_off9 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v126 : Index := Scalar.indexCast v13
  let c4 : Index := 4#32
  let c0_32 : Index := 0#32
  ![v126.toNat, 4, 0, 0]
def k0_off10 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v143 : Index := Scalar.indexCast v13
  let c5 : Index := 5#32
  let c0_35 : Index := 0#32
  ![v143.toNat, 5, 0, 0]
def k0_off11 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v160 : Index := Scalar.indexCast v13
  let c6 : Index := 6#32
  let c0_38 : Index := 0#32
  ![v160.toNat, 6, 0, 0]
def k0_off12 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v177 : Index := Scalar.indexCast v13
  let c7 : Index := 7#32
  let c0_41 : Index := 0#32
  ![v177.toNat, 7, 0, 0]
def k0_off13 (k0_t1 : Fin k0_t1_loop.trips) (c0_i32_8 : BitVec 32) : Fin 2 → Nat :=
  let c64 : Index := 64#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v193 : Index := Scalar.indexCast v15
  ![64, v193.toNat]
def k0_off14 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v206 : Index := Scalar.indexCast v13
  let c8 : Index := 8#32
  let c0_47 : Index := 0#32
  ![v206.toNat, 8, 0, 0]
def k0_off15 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v223 : Index := Scalar.indexCast v13
  let c9 : Index := 9#32
  let c0_50 : Index := 0#32
  ![v223.toNat, 9, 0, 0]
def k0_off16 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v240 : Index := Scalar.indexCast v13
  let c10 : Index := 10#32
  let c0_53 : Index := 0#32
  ![v240.toNat, 10, 0, 0]
def k0_off17 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v257 : Index := Scalar.indexCast v13
  let c11 : Index := 11#32
  let c0_56 : Index := 0#32
  ![v257.toNat, 11, 0, 0]
def k0_off18 (k0_t1 : Fin k0_t1_loop.trips) (c0_i32_8 : BitVec 32) : Fin 2 → Nat :=
  let c96 : Index := 96#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v273 : Index := Scalar.indexCast v15
  ![96, v273.toNat]
def k0_off19 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v286 : Index := Scalar.indexCast v13
  let c12 : Index := 12#32
  let c0_62 : Index := 0#32
  ![v286.toNat, 12, 0, 0]
def k0_off20 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v303 : Index := Scalar.indexCast v13
  let c13 : Index := 13#32
  let c0_65 : Index := 0#32
  ![v303.toNat, 13, 0, 0]
def k0_off21 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v320 : Index := Scalar.indexCast v13
  let c14 : Index := 14#32
  let c0_68 : Index := 0#32
  ![v320.toNat, 14, 0, 0]
def k0_off22 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v337 : Index := Scalar.indexCast v13
  let c15 : Index := 15#32
  let c0_71 : Index := 0#32
  ![v337.toNat, 15, 0, 0]
def k0_off23 (k0_t1 : Fin k0_t1_loop.trips) (c0_i32_8 : BitVec 32) : Fin 2 → Nat :=
  let c128 : Index := 128#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v353 : Index := Scalar.indexCast v15
  ![128, v353.toNat]
def k0_off24 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v366 : Index := Scalar.indexCast v13
  let c16 : Index := 16#32
  let c0_77 : Index := 0#32
  ![v366.toNat, 16, 0, 0]
def k0_off25 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v383 : Index := Scalar.indexCast v13
  let c17 : Index := 17#32
  let c0_80 : Index := 0#32
  ![v383.toNat, 17, 0, 0]
def k0_off26 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v400 : Index := Scalar.indexCast v13
  let c18 : Index := 18#32
  let c0_83 : Index := 0#32
  ![v400.toNat, 18, 0, 0]
def k0_off27 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v417 : Index := Scalar.indexCast v13
  let c19 : Index := 19#32
  let c0_86 : Index := 0#32
  ![v417.toNat, 19, 0, 0]
def k0_off28 (k0_t1 : Fin k0_t1_loop.trips) (c0_i32_8 : BitVec 32) : Fin 2 → Nat :=
  let c160 : Index := 160#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v433 : Index := Scalar.indexCast v15
  ![160, v433.toNat]
def k0_off29 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v446 : Index := Scalar.indexCast v13
  let c20 : Index := 20#32
  let c0_92 : Index := 0#32
  ![v446.toNat, 20, 0, 0]
def k0_off30 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v463 : Index := Scalar.indexCast v13
  let c21 : Index := 21#32
  let c0_95 : Index := 0#32
  ![v463.toNat, 21, 0, 0]
def k0_off31 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v480 : Index := Scalar.indexCast v13
  let c22 : Index := 22#32
  let c0_98 : Index := 0#32
  ![v480.toNat, 22, 0, 0]
def k0_off32 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v497 : Index := Scalar.indexCast v13
  let c23 : Index := 23#32
  let c0_101 : Index := 0#32
  ![v497.toNat, 23, 0, 0]
def k0_off33 (k0_t1 : Fin k0_t1_loop.trips) (c0_i32_8 : BitVec 32) : Fin 2 → Nat :=
  let c192 : Index := 192#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v513 : Index := Scalar.indexCast v15
  ![192, v513.toNat]
def k0_off34 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v526 : Index := Scalar.indexCast v13
  let c24 : Index := 24#32
  let c0_107 : Index := 0#32
  ![v526.toNat, 24, 0, 0]
def k0_off35 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v543 : Index := Scalar.indexCast v13
  let c25 : Index := 25#32
  let c0_110 : Index := 0#32
  ![v543.toNat, 25, 0, 0]
def k0_off36 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v560 : Index := Scalar.indexCast v13
  let c26 : Index := 26#32
  let c0_113 : Index := 0#32
  ![v560.toNat, 26, 0, 0]
def k0_off37 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v577 : Index := Scalar.indexCast v13
  let c27 : Index := 27#32
  let c0_116 : Index := 0#32
  ![v577.toNat, 27, 0, 0]
def k0_off38 (k0_t1 : Fin k0_t1_loop.trips) (c0_i32_8 : BitVec 32) : Fin 2 → Nat :=
  let c224 : Index := 224#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v593 : Index := Scalar.indexCast v15
  ![224, v593.toNat]
def k0_off39 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v606 : Index := Scalar.indexCast v13
  let c28 : Index := 28#32
  let c0_122 : Index := 0#32
  ![v606.toNat, 28, 0, 0]
def k0_off40 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v623 : Index := Scalar.indexCast v13
  let c29 : Index := 29#32
  let c0_125 : Index := 0#32
  ![v623.toNat, 29, 0, 0]
def k0_off41 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v640 : Index := Scalar.indexCast v13
  let c30 : Index := 30#32
  let c0_128 : Index := 0#32
  ![v640.toNat, 30, 0, 0]
def k0_off42 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v657 : Index := Scalar.indexCast v13
  let c31 : Index := 31#32
  let c0_131 : Index := 0#32
  ![v657.toNat, 31, 0, 0]
def k0_off43 (k0_t1 : Fin k0_t1_loop.trips) (c0_i32_8 : BitVec 32) : Fin 2 → Nat :=
  let c256 : Index := 256#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v673 : Index := Scalar.indexCast v15
  ![256, v673.toNat]
def k0_off44 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v686 : Index := Scalar.indexCast v13
  let c32_137 : Index := 32#32
  let c0_138 : Index := 0#32
  ![v686.toNat, 32, 0, 0]
def k0_off45 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v703 : Index := Scalar.indexCast v13
  let c33 : Index := 33#32
  let c0_141 : Index := 0#32
  ![v703.toNat, 33, 0, 0]
def k0_off46 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v720 : Index := Scalar.indexCast v13
  let c34 : Index := 34#32
  let c0_144 : Index := 0#32
  ![v720.toNat, 34, 0, 0]
def k0_off47 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v737 : Index := Scalar.indexCast v13
  let c35 : Index := 35#32
  let c0_147 : Index := 0#32
  ![v737.toNat, 35, 0, 0]
def k0_off48 (k0_t1 : Fin k0_t1_loop.trips) (c0_i32_8 : BitVec 32) : Fin 2 → Nat :=
  let c288 : Index := 288#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v753 : Index := Scalar.indexCast v15
  ![288, v753.toNat]
def k0_off49 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v766 : Index := Scalar.indexCast v13
  let c36 : Index := 36#32
  let c0_153 : Index := 0#32
  ![v766.toNat, 36, 0, 0]
def k0_off50 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v783 : Index := Scalar.indexCast v13
  let c37 : Index := 37#32
  let c0_156 : Index := 0#32
  ![v783.toNat, 37, 0, 0]
def k0_off51 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v800 : Index := Scalar.indexCast v13
  let c38 : Index := 38#32
  let c0_159 : Index := 0#32
  ![v800.toNat, 38, 0, 0]
def k0_off52 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v817 : Index := Scalar.indexCast v13
  let c39 : Index := 39#32
  let c0_162 : Index := 0#32
  ![v817.toNat, 39, 0, 0]
def k0_off53 (k0_t1 : Fin k0_t1_loop.trips) (c0_i32_8 : BitVec 32) : Fin 2 → Nat :=
  let c320 : Index := 320#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v833 : Index := Scalar.indexCast v15
  ![320, v833.toNat]
def k0_off54 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v846 : Index := Scalar.indexCast v13
  let c40 : Index := 40#32
  let c0_168 : Index := 0#32
  ![v846.toNat, 40, 0, 0]
def k0_off55 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v863 : Index := Scalar.indexCast v13
  let c41 : Index := 41#32
  let c0_171 : Index := 0#32
  ![v863.toNat, 41, 0, 0]
def k0_off56 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v880 : Index := Scalar.indexCast v13
  let c42 : Index := 42#32
  let c0_174 : Index := 0#32
  ![v880.toNat, 42, 0, 0]
def k0_off57 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v897 : Index := Scalar.indexCast v13
  let c43 : Index := 43#32
  let c0_177 : Index := 0#32
  ![v897.toNat, 43, 0, 0]
def k0_off58 (k0_t1 : Fin k0_t1_loop.trips) (c0_i32_8 : BitVec 32) : Fin 2 → Nat :=
  let c352 : Index := 352#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v913 : Index := Scalar.indexCast v15
  ![352, v913.toNat]
def k0_off59 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v926 : Index := Scalar.indexCast v13
  let c44 : Index := 44#32
  let c0_183 : Index := 0#32
  ![v926.toNat, 44, 0, 0]
def k0_off60 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v943 : Index := Scalar.indexCast v13
  let c45 : Index := 45#32
  let c0_186 : Index := 0#32
  ![v943.toNat, 45, 0, 0]
def k0_off61 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v960 : Index := Scalar.indexCast v13
  let c46 : Index := 46#32
  let c0_189 : Index := 0#32
  ![v960.toNat, 46, 0, 0]
def k0_off62 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v977 : Index := Scalar.indexCast v13
  let c47 : Index := 47#32
  let c0_192 : Index := 0#32
  ![v977.toNat, 47, 0, 0]
def k0_off63 (k0_t1 : Fin k0_t1_loop.trips) (c0_i32_8 : BitVec 32) : Fin 2 → Nat :=
  let c384 : Index := 384#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v993 : Index := Scalar.indexCast v15
  ![384, v993.toNat]
def k0_off64 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1006 : Index := Scalar.indexCast v13
  let c48 : Index := 48#32
  let c0_198 : Index := 0#32
  ![v1006.toNat, 48, 0, 0]
def k0_off65 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1023 : Index := Scalar.indexCast v13
  let c49 : Index := 49#32
  let c0_201 : Index := 0#32
  ![v1023.toNat, 49, 0, 0]
def k0_off66 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1040 : Index := Scalar.indexCast v13
  let c50 : Index := 50#32
  let c0_204 : Index := 0#32
  ![v1040.toNat, 50, 0, 0]
def k0_off67 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1057 : Index := Scalar.indexCast v13
  let c51 : Index := 51#32
  let c0_207 : Index := 0#32
  ![v1057.toNat, 51, 0, 0]
def k0_off68 (k0_t1 : Fin k0_t1_loop.trips) (c0_i32_8 : BitVec 32) : Fin 2 → Nat :=
  let c416 : Index := 416#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v1073 : Index := Scalar.indexCast v15
  ![416, v1073.toNat]
def k0_off69 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1086 : Index := Scalar.indexCast v13
  let c52 : Index := 52#32
  let c0_213 : Index := 0#32
  ![v1086.toNat, 52, 0, 0]
def k0_off70 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1103 : Index := Scalar.indexCast v13
  let c53 : Index := 53#32
  let c0_216 : Index := 0#32
  ![v1103.toNat, 53, 0, 0]
def k0_off71 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1120 : Index := Scalar.indexCast v13
  let c54 : Index := 54#32
  let c0_219 : Index := 0#32
  ![v1120.toNat, 54, 0, 0]
def k0_off72 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1137 : Index := Scalar.indexCast v13
  let c55 : Index := 55#32
  let c0_222 : Index := 0#32
  ![v1137.toNat, 55, 0, 0]
def k0_off73 (k0_t1 : Fin k0_t1_loop.trips) (c0_i32_8 : BitVec 32) : Fin 2 → Nat :=
  let c448 : Index := 448#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v1153 : Index := Scalar.indexCast v15
  ![448, v1153.toNat]
def k0_off74 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1166 : Index := Scalar.indexCast v13
  let c56 : Index := 56#32
  let c0_228 : Index := 0#32
  ![v1166.toNat, 56, 0, 0]
def k0_off75 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1183 : Index := Scalar.indexCast v13
  let c57 : Index := 57#32
  let c0_231 : Index := 0#32
  ![v1183.toNat, 57, 0, 0]
def k0_off76 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1200 : Index := Scalar.indexCast v13
  let c58 : Index := 58#32
  let c0_234 : Index := 0#32
  ![v1200.toNat, 58, 0, 0]
def k0_off77 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1217 : Index := Scalar.indexCast v13
  let c59 : Index := 59#32
  let c0_237 : Index := 0#32
  ![v1217.toNat, 59, 0, 0]
def k0_off78 (k0_t1 : Fin k0_t1_loop.trips) (c0_i32_8 : BitVec 32) : Fin 2 → Nat :=
  let c480 : Index := 480#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let c128_i32 : BitVec 32 := 128#32
  let v14 : BitVec 32 := Scalar.muli v13 c128_i32
  let v15 : BitVec 32 := v14
  let v1233 : Index := Scalar.indexCast v15
  ![480, v1233.toNat]
def k0_off79 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1246 : Index := Scalar.indexCast v13
  let c60 : Index := 60#32
  let c0_243 : Index := 0#32
  ![v1246.toNat, 60, 0, 0]
def k0_off80 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1263 : Index := Scalar.indexCast v13
  let c61 : Index := 61#32
  let c0_246 : Index := 0#32
  ![v1263.toNat, 61, 0, 0]
def k0_off81 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1280 : Index := Scalar.indexCast v13
  let c62 : Index := 62#32
  let c0_249 : Index := 0#32
  ![v1280.toNat, 62, 0, 0]
def k0_off82 (k0_t1 : Fin k0_t1_loop.trips) (c0_i32_8 : BitVec 32) : Fin 4 → Nat :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32 : BitVec 32 := 2#32
  let v12 : BitVec 32 := Scalar.muli v11 c2_i32
  let v13 : BitVec 32 := Scalar.addi v12 c0_i32_8
  let v1297 : Index := Scalar.indexCast v13
  let c63 : Index := 63#32
  let c0_252 : Index := 0#32
  ![v1297.toNat, 63, 0, 0]
def k0_mult2 (k0_t1 : Fin k0_t1_loop.trips) : BitVec 32 :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c2_i32_255 : BitVec 32 := 2#32
  let v1314 : BitVec 32 := Scalar.muli v11 c2_i32_255
  let c1_i32_256 : BitVec 32 := 1#32
  let v1315 : BitVec 32 := Scalar.addi v1314 c1_i32_256
  let c128_i32_257 : BitVec 32 := 128#32
  let v1316 : BitVec 32 := Scalar.muli v1315 c128_i32_257
  v1316
def k0_mult3 (k0_t1 : Fin k0_t1_loop.trips) : BitVec 32 :=
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c256_i32 : BitVec 32 := 256#32
  let v2619 : BitVec 32 := Scalar.muli v11 c256_i32
  v2619
def k0_off83 (k0_t1 : Fin k0_t1_loop.trips) : Fin 2 → Nat :=
  let c0_586 : Index := 0#32
  let c0_i32_7 : BitVec 32 := 0#32
  let c0_i32_4 : BitVec 32 := 0#32
  let c1_i32 : BitVec 32 := 1#32
  let arg9 : BitVec 32 := Scf.iv c0_i32_4 c1_i32 k0_t1
  let c1_i32_6 : BitVec 32 := 1#32
  let v10 : BitVec 32 := Scalar.muli arg9 c1_i32_6
  let v11 : BitVec 32 := Scalar.addi c0_i32_7 v10
  let c256_i32 : BitVec 32 := 256#32
  let v2619 : BitVec 32 := Scalar.muli v11 c256_i32
  let v2620 : BitVec 32 := v2619
  let v2621 : Index := Scalar.indexCast v2620
  ![0, v2621.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x7424 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x7424 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x7424 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x7424 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S128x1x8192 : Shape := ⟨3, ![128, 1, 8192]⟩
abbrev S4096x7424 : Shape := ⟨2, ![4096, 7424]⟩
abbrev S512x7424 : Shape := ⟨2, ![512, 7424]⟩
abbrev S_ : Shape := ⟨0, ![]⟩
abbrev S512x8x7424 : Shape := ⟨3, ![512, 8, 7424]⟩
abbrev S512x1x7424 : Shape := ⟨3, ![512, 1, 7424]⟩
abbrev S128x1x4096 : Shape := ⟨3, ![128, 1, 4096]⟩
abbrev S128x1x7424 : Shape := ⟨3, ![128, 1, 7424]⟩
abbrev S128x7424 : Shape := ⟨2, ![128, 7424]⟩

abbrev nBuf : Space → Nat
  | .hbm => 37
  | .vmem => 0
  | .smem => 0
  | _ => 0

abbrev bufTy : (tb : Table) → Fin (tcTables nBuf tb) → BufTy
  | .hbm, ⟨0, _⟩ => ⟨S128x1x8192, .bf16⟩
  | .hbm, ⟨1, _⟩ => ⟨S4096x7424, .i8⟩
  | .hbm, ⟨2, _⟩ => ⟨S512x7424, .bf16⟩
  | .hbm, ⟨3, _⟩ => ⟨S512x7424, .i8⟩
  | .hbm, ⟨4, _⟩ => ⟨S4096x7424, .i32⟩
  | .hbm, ⟨5, _⟩ => ⟨S_, .i32⟩
  | .hbm, ⟨6, _⟩ => ⟨S4096x7424, .i32⟩
  | .hbm, ⟨7, _⟩ => ⟨S4096x7424, .i32⟩
  | .hbm, ⟨8, _⟩ => ⟨S_, .i32⟩
  | .hbm, ⟨9, _⟩ => ⟨S4096x7424, .i32⟩
  | .hbm, ⟨10, _⟩ => ⟨S4096x7424, .i32⟩
  | .hbm, ⟨11, _⟩ => ⟨S512x7424, .i32⟩
  | .hbm, ⟨12, _⟩ => ⟨S512x7424, .bf16⟩
  | .hbm, ⟨13, _⟩ => ⟨S4096x7424, .bf16⟩
  | .hbm, ⟨14, _⟩ => ⟨S512x8x7424, .bf16⟩
  | .hbm, ⟨15, _⟩ => ⟨S512x1x7424, .bf16⟩
  | .hbm, ⟨16, _⟩ => ⟨S512x8x7424, .bf16⟩
  | .hbm, ⟨17, _⟩ => ⟨S512x8x7424, .bf16⟩
  | .hbm, ⟨18, _⟩ => ⟨S512x1x7424, .bf16⟩
  | .hbm, ⟨19, _⟩ => ⟨S512x8x7424, .bf16⟩
  | .hbm, ⟨20, _⟩ => ⟨S512x8x7424, .bf16⟩
  | .hbm, ⟨21, _⟩ => ⟨S4096x7424, .bf16⟩
  | .hbm, ⟨22, _⟩ => ⟨S4096x7424, .bf16⟩
  | .hbm, ⟨23, _⟩ => ⟨S512x8x7424, .bf16⟩
  | .hbm, ⟨24, _⟩ => ⟨S512x1x7424, .bf16⟩
  | .hbm, ⟨25, _⟩ => ⟨S512x8x7424, .bf16⟩
  | .hbm, ⟨26, _⟩ => ⟨S512x8x7424, .bf16⟩
  | .hbm, ⟨27, _⟩ => ⟨S512x1x7424, .bf16⟩
  | .hbm, ⟨28, _⟩ => ⟨S512x8x7424, .bf16⟩
  | .hbm, ⟨29, _⟩ => ⟨S512x8x7424, .bf16⟩
  | .hbm, ⟨30, _⟩ => ⟨S4096x7424, .bf16⟩
  | .hbm, ⟨31, _⟩ => ⟨S128x1x4096, .bf16⟩
  | .hbm, ⟨32, _⟩ => ⟨S128x1x7424, .f32⟩
  | .hbm, ⟨33, _⟩ => ⟨S128x1x4096, .bf16⟩
  | .hbm, ⟨34, _⟩ => ⟨S128x1x7424, .f32⟩
  | .hbm, ⟨35, _⟩ => ⟨S128x1x7424, .f32⟩
  | .hbm, ⟨36, _⟩ => ⟨S128x7424, .f32⟩
  | _, _ => ⟨S128x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Combine.lean ====
abbrev S128x7424 : Shape := ⟨2, ![128, 7424]⟩
abbrev S7424x128 : Shape := ⟨2, ![7424, 128]⟩
abbrev S128x256 : Shape := ⟨2, ![128, 256]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S128x7424, .f32⟩
  | .hbm, ⟨1, _⟩ => ⟨S7424x128, .f32⟩
  | .hbm, ⟨2, _⟩ => ⟨S128x7424, .bf16⟩
  | .local _ .vmem, ⟨0, _⟩ => ⟨S128x256, .f32⟩
  | .local _ .vmem, ⟨1, _⟩ => ⟨S128x256, .f32⟩
  | .local _ .vmem, ⟨2, _⟩ => ⟨S256x128, .f32⟩
  | .local _ .vmem, ⟨3, _⟩ => ⟨S256x128, .f32⟩
  | .local _ .vmem, ⟨4, _⟩ => ⟨S128x256, .bf16⟩
  | .local _ .vmem, ⟨5, _⟩ => ⟨S128x256, .bf16⟩
  | _, _ => ⟨S128x7424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CombineReferenceIdeal.lean ====
abbrev S128x7424 : Shape := ⟨2, ![128, 7424]⟩
abbrev S7424x128 : Shape := ⟨2, ![7424, 128]⟩

abbrev nBuf : Space → Nat
  | .hbm => 5
  | .vmem => 0
  | .smem => 0
  | _ => 0

abbrev bufTy : (tb : Table) → Fin (tcTables nBuf tb) → BufTy
  | .hbm, ⟨0, _⟩ => ⟨S128x7424, .f32⟩
  | .hbm, ⟨1, _⟩ => ⟨S7424x128, .f32⟩
  | .hbm, ⟨2, _⟩ => ⟨S128x7424, .f32⟩
  | .hbm, ⟨3, _⟩ => ⟨S128x7424, .f32⟩
  | .hbm, ⟨4, _⟩ => ⟨S128x7424, .bf16⟩
  | _, _ => ⟨S128x7424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KernelFrame.lean ====
module

public import proofs.«01_k».proof.Proof.Gen.Kernel.Frame
public import proofs.«01_k».proof.Proof.Gen.Kernel.Loops
public import Idealize.ShloMosaic.Lib.Claim

@[expose] public section

/-! The frame claim of `Kernel`: from any memory whose counters are zero the program runs to the end, leaves its
    argument arrays as it found them, and every counter ends at zero. The output array is left unnamed. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x7424 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x7424 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x7424 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x7424 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S64x1024 .i32 := Memref.whole cc0_scratch0
abbrev scM0_1 : Memref sig .tc .vmem S58x64x128 .i32 := Memref.whole cc0_scratch1
abbrev scM0_2 : Memref sig .tc .vmem S58x64x128 .i32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- (the run's proof term is large: checking it walks past the default budget)
set_option maxHeartbeats 50096000 in
/-- The body's triple IN CASE A (`scf.if` 0 taken: points 0): on whole staging memrefs — the inputs' at their contents,
    the FORGOTTEN outputs' (4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S128x1024 .bf16) (harg1 : arg1.IsWhole) (arg2 : Memref sig .tc .vmem S512x7424 .i8) (harg2 : arg2.IsWhole) (arg3 : Memref sig .tc .vmem S64x7424 .bf16) (harg3 : arg3.IsWhole) (arg4 : Memref sig .tc .vmem S64x7424 .i8) (harg4 : arg4.IsWhole) (arg5 : Memref sig .tc .vmem S128x7424 .f32) (harg5 : arg5.IsWhole) (arg6 : Memref sig .tc .vmem S64x1024 .i32) (harg6 : arg6.IsWhole) (arg7 : Memref sig .tc .vmem S58x64x128 .i32) (harg7 : arg7.IsWhole) (arg8 : Memref sig .tc .vmem S58x64x128 .i32) (harg8 : arg8.IsWhole) (hc0 : cond0_0 i)
    (x0 : Vec F S128x1024 .bf16) (x1 : Vec F S512x7424 .i8) (x2 : Vec F S64x7424 .bf16) (x3 : Vec F S64x7424 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_dense i arg1 harg1 arg2 harg2 arg3 harg3 arg4 harg4 arg5 harg5 arg6 harg6 arg7 harg7 arg8 harg8) K := by
    intro E K
    simp only [cc0_dense_eq_skeleton]; unfold cc0_dense_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

-- (the run's proof term is large: checking it walks past the default budget)
set_option maxHeartbeats 50088000 in
/-- The body's triple IN CASE B (`scf.if` 0 not taken: points 1, 2, … 7: 7 of 8): on whole staging memrefs — the inputs' at their contents,
    the FORGOTTEN outputs' (4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S128x1024 .bf16) (harg1 : arg1.IsWhole) (arg2 : Memref sig .tc .vmem S512x7424 .i8) (harg2 : arg2.IsWhole) (arg3 : Memref sig .tc .vmem S64x7424 .bf16) (harg3 : arg3.IsWhole) (arg4 : Memref sig .tc .vmem S64x7424 .i8) (harg4 : arg4.IsWhole) (arg5 : Memref sig .tc .vmem S128x7424 .f32) (harg5 : arg5.IsWhole) (arg6 : Memref sig .tc .vmem S64x1024 .i32) (harg6 : arg6.IsWhole) (arg7 : Memref sig .tc .vmem S58x64x128 .i32) (harg7 : arg7.IsWhole) (arg8 : Memref sig .tc .vmem S58x64x128 .i32) (harg8 : arg8.IsWhole) (hc0 : ¬cond0_0 i)
    (x0 : Vec F S128x1024 .bf16) (x1 : Vec F S512x7424 .i8) (x2 : Vec F S64x7424 .bf16) (x3 : Vec F S64x7424 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_dense i arg1 harg1 arg2 harg2 arg3 harg3 arg4 harg4 arg5 harg5 arg6 harg6 arg7 harg7 arg8 harg8) K := by
    intro E K
    simp only [cc0_dense_eq_skeleton]; unfold cc0_dense_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    iexact H4
  · iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.Tile.lean ====
module

public import proofs.«01_k».proof.Proof.Gen.KernelIdeal.Loops
public import proofs.«01_k».proof.Proof.Gen.KernelIdeal.Frame

@[expose] public section

/-! What one trip of the column loop stores, as a term: the trip's 256 columns of the accumulator plus the product of
    the activations with a 1024x256 weight tile, the tile being two 1024x128 halves side by side and a half being 64
    groups of 16 dequantised rows stacked. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

/-- 32 packed rows unpacked to 64 rows of nibbles: row `2i` the low nibble of byte row `i`, row `2i+1` its high one. -/
def nibRows (w : Vec F S32x128 .i8) : FVec F S64x128 .bf16 :=
  sitofp .bf16 (bitcast S64x128 16
    (ori (andi (extui 32 w natLt_8_32) (broadcast S32x128 15#32))
      (shli (shrsi (extui 32 w natLt_8_32) (broadcast S32x128 4#32)) (broadcast S32x128 16#32)))
    bitcasts_S32x128_w32_S64x128_w16)

/-- A stored pair of equal bf16 rows read back as one row and repeated over the 16 rows of a group. -/
def groupRow (r : Vec F S1x1x2x128 .bf16) : FVec F S16x128 .bf16 :=
  broadcastTo S16x128 (shapeCast S1x128 (extractStridedSlice S1x128 ![0, 0]
    (interleaveRows S2x128
      (shapeCast S1x128 (shapeCast S1x1x128 (rowsOfParity 0 S1x1x1x128 r bitcasts_S1x1x2x128_w16_S1x1x1x128_w32)
        shapeCasts_S1x1x1x128_S1x1x128) shapeCasts_S1x1x128_S1x128)
      (shapeCast S1x128 (shapeCast S1x1x128 (rowsOfParity 1 S1x1x1x128 r bitcasts_S1x1x2x128_w16_S1x1x1x128_w32)
        shapeCasts_S1x1x1x128_S1x1x128) shapeCasts_S1x1x128_S1x128)
      bitcasts_S2x128_w16_S1x128_w32)
    slices_S2x128_o0_0_S1x128) shapeCasts_S1x128_S1x128) broadcasts_S1x128_S16x128

theorem slices_group (q : Fin 4) : S64x128.Slices ![16 * q.val, 0] S16x128 := by revert q; decide

/-- One group of 16 dequantised rows: `(nibble - zero) * scale`, the nibbles being rows `16q … 16q+15` of the 64. -/
def groupW (q : Fin 4) (nib : FVec F S64x128 .bf16) (sr zr : Vec F S1x1x2x128 .bf16) : FVec F S16x128 .bf16 :=
  mulf (subf (extractStridedSlice S16x128 ![16 * q.val, 0] nib (slices_group q)) (groupRow zr)) (groupRow sr)

theorem concatenates_groups : Shape.Concatenates ((List.ofFn fun _ : Fin 64 => S16x128)) S1024x128 0 := by decide

/-- One half tile: 64 groups stacked; packed block `g / 4` and its quarter `g % 4` feed group `g`. -/
def halfW (wl : Fin 16 → Vec F S32x128 .i8) (sr zr : Fin 64 → Vec F S1x1x2x128 .bf16) : FVec F S1024x128 .bf16 :=
  concatenate S1024x128 0 (List.ofFn fun g : Fin 64 =>
    (⟨S16x128, groupW ⟨g.val % 4, Nat.mod_lt _ (by decide)⟩ (nibRows (wl ⟨g.val / 4, by omega⟩)) (sr g) (zr g)⟩ : (s : Shape) × (s.Idx → F .bf16)))
    (by rw [List.map_ofFn]; exact concatenates_groups)

/-- The activations read back out of the word buffer. -/
def actRows (r : Vec F S64x2x1024 .bf16) : FVec F S128x1024 .bf16 :=
  interleaveRows S128x1024
    (shapeCast S64x1024 (rowsOfParity 0 S64x1x1024 r bitcasts_S64x2x1024_w16_S64x1x1024_w32) shapeCasts_S64x1x1024_S64x1024)
    (shapeCast S64x1024 (rowsOfParity 1 S64x1x1024 r bitcasts_S64x2x1024_w16_S64x1x1024_w32) shapeCasts_S64x1x1024_S64x1024)
    bitcasts_S128x1024_w16_S64x1024_w32

/-- The trip's stored value from the columns it finds, the activations and the two half tiles. -/
def tripOut (acc : Vec F S128x256 .f32) (xr : Vec F S64x2x1024 .bf16) (h0 h1 : FVec F S1024x128 .bf16) : FVec F S128x256 .f32 :=
  addf (shapeCast S128x256 acc shapeCasts_S128x256_S128x256)
    (matmul dot_S128x1024_S1024x256_S128x256_1_0_0_1_n_n none (actRows xr)
      (concatenate S1024x256 1 [⟨S1024x128, h0⟩, ⟨S1024x128, h1⟩] concatenates_S1024x128_S1024x128_S1024x256_d1)
      (constant S128x256 .f32 0x00000000#32))

/-- Where trip `k` reads half `h`'s packed block `j`. -/
def offW (k : Fin k0_t1_loop.trips) (h : Fin 2) (j : Fin 16) : Fin 2 → Nat := ![32 * j.val, (k0_off3 k (BitVec.ofNat 32 h.val)) 1]
/-- Where it reads half `h`'s stored scale or zero row of group `g`. -/
def offG (k : Fin k0_t1_loop.trips) (h : Fin 2) (g : Fin 64) : Fin 4 → Nat := ![(k0_off2 k (BitVec.ofNat 32 h.val)) 0, g.val, 0, 0]

theorem trips_lt (k : Fin k0_t1_loop.trips) : k.val < 29 := Nat.lt_of_lt_of_le k.isLt k0_t1_abs.2.1

theorem offW_eq (k : Fin k0_t1_loop.trips) (h : Fin 2) (j : Fin 16) : offW k h j = ![32 * j.val, 256 * k.val + 128 * h.val] := by
  unfold offW; rw [k0_off3_eq]; rfl
theorem offG_eq (k : Fin k0_t1_loop.trips) (h : Fin 2) (g : Fin 64) : offG k h g = ![2 * k.val + h.val, g.val, 0, 0] := by
  unfold offG; rw [k0_off2_eq]; rfl

theorem offW_inb (k : Fin k0_t1_loop.trips) (h : Fin 2) (j : Fin 16) : ∀ a, offW k h j a + S32x128.size a ≤ S512x7424.size a := by
  have := trips_lt k
  rw [offW_eq]
  intro a
  fin_cases a
  · show 32 * j.val + 32 ≤ 512; omega
  · show 256 * k.val + 128 * h.val + 128 ≤ 7424; omega
theorem offG_inb (k : Fin k0_t1_loop.trips) (h : Fin 2) (g : Fin 64) : ∀ a, offG k h g a + S1x1x2x128.size a ≤ S58x64x2x128.size a := by
  have := trips_lt k
  rw [offG_eq]
  intro a
  fin_cases a
  · show 2 * k.val + h.val + 1 ≤ 58; omega
  · show g.val + 1 ≤ 64; omega
  · show 0 + 2 ≤ 2; omega
  · show 0 + 128 ≤ 128; omega

/-- The store into the scale scratch of half `h` of trip `k`. -/
def scalePiece (arg3 : Memref sig .tc .vmem S64x7424 .bf16) (X3 : BufTy.Contents (Elt F) arg3.view.ty) (k : Fin k0_t1_loop.trips) (h : Fin 2) :
    View.Piece (Elt F) S58x64x2x128 .bf16 :=
  ⟨Rect.unit (k0_off2 k (BitVec.ofNat 32 h.val)) S1x64x2x128.size (k0_off2_inb k h),
    k0_pay3 (View.readAt (Elt F) arg3.view (Rect.unit (s := S64x7424) (k0_off1 k (BitVec.ofNat 32 h.val)) S64x128.size (k0_off1_inb k h)).toLoadRect X3)⟩
/-- The store into the zero-point scratch of half `h` of trip `k`. -/
def zeroPiece (arg4 : Memref sig .tc .vmem S64x7424 .i8) (X4 : BufTy.Contents (Elt F) arg4.view.ty) (k : Fin k0_t1_loop.trips) (h : Fin 2) :
    View.Piece (Elt F) S58x64x2x128 .bf16 :=
  ⟨Rect.unit (k0_off2 k (BitVec.ofNat 32 h.val)) S1x64x2x128.size (k0_off2_inb k h),
    k0_pay4 (View.readAt (Elt F) arg4.view (Rect.unit (s := S64x7424) (k0_off1 k (BitVec.ofNat 32 h.val)) S64x128.size (k0_off1_inb k h)).toLoadRect X4)⟩

/-- The stores of trip `k` into the scale scratch that stand when half `h` is computed, last first. -/
def scalePieces (arg3 : Memref sig .tc .vmem S64x7424 .bf16) (X3 : BufTy.Contents (Elt F) arg3.view.ty) (k : Fin k0_t1_loop.trips) :
    Fin 2 → List (View.Piece (Elt F) S58x64x2x128 .bf16)
  | 0 => [scalePiece arg3 X3 k 0]
  | 1 => [scalePiece arg3 X3 k 1, scalePiece arg3 X3 k 0]
/-- The same for the zero-point scratch. -/
def zeroPieces (arg4 : Memref sig .tc .vmem S64x7424 .i8) (X4 : BufTy.Contents (Elt F) arg4.view.ty) (k : Fin k0_t1_loop.trips) :
    Fin 2 → List (View.Piece (Elt F) S58x64x2x128 .bf16)
  | 0 => [zeroPiece arg4 X4 k 0]
  | 1 => [zeroPiece arg4 X4 k 1, zeroPiece arg4 X4 k 0]

/-- Half tile `h` of trip `k` as the run computes it: every packed block, scale row and zero row read where the program reads it. -/
def runHalf (arg2 : Memref sig .tc .vmem S512x7424 .i8) (arg3 : Memref sig .tc .vmem S64x7424 .bf16)
    (arg4 : Memref sig .tc .vmem S64x7424 .i8) (arg7 arg8 : Memref sig .tc .vmem S58x64x2x128 .bf16)
    (X2 : BufTy.Contents (Elt F) arg2.view.ty) (X3 : BufTy.Contents (Elt F) arg3.view.ty) (X4 : BufTy.Contents (Elt F) arg4.view.ty)
    (k : Fin k0_t1_loop.trips) (h : Fin 2) : FVec F S1024x128 .bf16 :=
  halfW (fun j => View.readAt (Elt F) arg2.view (Rect.unit (s := S512x7424) (offW k h j) S32x128.size (offW_inb k h j)).toLoadRect X2)
    (fun g => arg7.view.readCov (scalePieces arg3 X3 k h) (Rect.unit (s := S58x64x2x128) (offG k h g) S1x1x2x128.size (offG_inb k h g)).toLoadRect)
    (fun g => arg8.view.readCov (zeroPieces arg4 X4 k h) (Rect.unit (s := S58x64x2x128) (offG k h g) S1x1x2x128.size (offG_inb k h g)).toLoadRect)

end Cert.KernelIdeal.Hand

end
-- ==== Proof.TripRun.lean ====
module

public import proofs.«01_k».proof.Proof.Tile

@[expose] public section

/-! The store one trip of the column loop makes into the accumulator is `tripOut` of what it reads. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

set_option maxHeartbeats 4000000 in
set_option maxRecDepth 65536 in
/-- Trip `k` makes one store into the accumulator: its 256 columns, at `tripOut`. -/
theorem trip_piece (𝒱 : Variants) (c : Dev nD) (bd : Option 𝒱.V) (i : grid0.Coords) (arg1 : Memref sig .tc .vmem S128x1024 .bf16) (harg1 : arg1.IsWhole) (arg2 : Memref sig .tc .vmem S512x7424 .i8) (harg2 : arg2.IsWhole) (arg3 : Memref sig .tc .vmem S64x7424 .bf16) (harg3 : arg3.IsWhole) (arg4 : Memref sig .tc .vmem S64x7424 .i8) (harg4 : arg4.IsWhole) (arg5 : Memref sig .tc .vmem S128x7424 .f32) (harg5 : arg5.IsWhole) (arg6 : Memref sig .tc .vmem S64x2x1024 .bf16) (harg6 : arg6.IsWhole) (arg7 : Memref sig .tc .vmem S58x64x2x128 .bf16) (harg7 : arg7.IsWhole) (arg8 : Memref sig .tc .vmem S58x64x2x128 .bf16) (harg8 : arg8.IsWhole) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (k : Fin k0_t1_loop.trips)
    (f5 : BufTy.Contents (Elt F) arg5.view.ty) (f7 : BufTy.Contents (Elt F) arg7.view.ty) (f8 : BufTy.Contents (Elt F) arg8.view.ty) :
    (trip_k0_t1 (F := F) 𝒱 c bd i arg1 harg1 arg2 harg2 arg3 harg3 arg4 harg4 arg5 harg5 arg6 harg6 arg7 harg7 arg8 harg8 X_arg2 X_arg3 X_arg4 X_arg6 k).1 f5 f7 f8
      = [(⟨Rect.unit (s := S128x7424) (k0_off83 k) S128x256.size (k0_off83_inb k),
          tripOut (View.readAt (Elt F) arg5.view (Rect.unit (s := S128x7424) (k0_off83 k) S128x256.size (k0_off83_inb k)).toLoadRect f5)
            (View.readAt (Elt F) arg6.view (Rect.unit (s := S64x2x1024) ![0, 0, 0] S64x2x1024.size inb_S64x2x1024_S64x2x1024_0_0_0).toLoadRect X_arg6)
            (runHalf arg2 arg3 arg4 arg7 arg8 X_arg2 X_arg3 X_arg4 k 0)
            (runHalf arg2 arg3 arg4 arg7 arg8 X_arg2 X_arg3 X_arg4 k 1)⟩ : View.Piece (Elt F) S128x7424 .f32)] := by
  unfold trip_k0_t1; dsimp only
  rfl

end Cert.KernelIdeal.Hand

end
-- ==== Proof.IdealRun.lean ====
module

public import proofs.«01_k».proof.Proof.TripRun
public import Idealize.ShloMosaic.Lib.Claim
public import Idealize.ShloMosaic.Lib.VecWindow

@[expose] public section

/-! The body of the idealized kernel at one grid point, as a triple: the input windows' buffers are left as found, and the
    accumulator holds what the column loop leaves, `LoopPost`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x7424 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x7424 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x7424 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x7424 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S64x2x1024 .bf16 := Memref.whole cc0_scratch0
abbrev scM0_1 : Memref sig .tc .vmem S58x64x2x128 .bf16 := Memref.whole cc0_scratch1
abbrev scM0_2 : Memref sig .tc .vmem S58x64x2x128 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- What the column loop leaves in the accumulator's buffer: the stores of its 29 trips, over contents that read `g`, the
    activations' word buffer holding `x0`, the input blocks `x1`, `x2`, `x3`. -/
def LoopPost (c : Dev nD) (i : grid0.Coords) (arg1 : Memref sig .tc .vmem S128x1024 .bf16) (harg1 : arg1.IsWhole) (arg2 : Memref sig .tc .vmem S512x7424 .i8) (harg2 : arg2.IsWhole) (arg3 : Memref sig .tc .vmem S64x7424 .bf16) (harg3 : arg3.IsWhole) (arg4 : Memref sig .tc .vmem S64x7424 .i8) (harg4 : arg4.IsWhole) (arg5 : Memref sig .tc .vmem S128x7424 .f32) (harg5 : arg5.IsWhole) (arg6 : Memref sig .tc .vmem S64x2x1024 .bf16) (harg6 : arg6.IsWhole) (arg7 : Memref sig .tc .vmem S58x64x2x128 .bf16) (harg7 : arg7.IsWhole) (arg8 : Memref sig .tc .vmem S58x64x2x128 .bf16) (harg8 : arg8.IsWhole)
    (x0 : Vec F S128x1024 .bf16) (x1 : Vec F S512x7424 .i8) (x2 : Vec F S64x7424 .bf16) (x3 : Vec F S64x7424 .i8)
    (g : Vec F S128x7424 .f32) (f : BufTy.Contents (Elt F) arg5.view.ty) : Prop :=
  ∃ (X6 : BufTy.Contents (Elt F) arg6.view.ty) (G5 : BufTy.Contents (Elt F) arg5.view.ty)
    (G7 : BufTy.Contents (Elt F) arg7.view.ty) (G8 : BufTy.Contents (Elt F) arg8.view.ty),
    arg6.view.read (Elt F) X6 = k0_pay2 x0 ∧ arg5.view.read (Elt F) G5 = g
    ∧ f = arg5.view.writes (Elt F) G5 (pb_k0_t1 (F := F) Variants.none c none i arg1 harg1 arg2 harg2 arg3 harg3 arg4 harg4 arg5 harg5 arg6 harg6 arg7 harg7 arg8 harg8 (harg2.unread x1) (harg3.unread x2) (harg4.unread x3) X6 G5 G7 G8 k0_t1_loop.trips).1

set_option maxHeartbeats 50096000 in
/-- The body at the first point, where the accumulator is zeroed first. -/
theorem kernelRun0_A (c : Dev nD) (i : grid0.Coords) (arg1 : Memref sig .tc .vmem S128x1024 .bf16) (harg1 : arg1.IsWhole) (arg2 : Memref sig .tc .vmem S512x7424 .i8) (harg2 : arg2.IsWhole) (arg3 : Memref sig .tc .vmem S64x7424 .bf16) (harg3 : arg3.IsWhole) (arg4 : Memref sig .tc .vmem S64x7424 .i8) (harg4 : arg4.IsWhole) (arg5 : Memref sig .tc .vmem S128x7424 .f32) (harg5 : arg5.IsWhole) (arg6 : Memref sig .tc .vmem S64x2x1024 .bf16) (harg6 : arg6.IsWhole) (arg7 : Memref sig .tc .vmem S58x64x2x128 .bf16) (harg7 : arg7.IsWhole) (arg8 : Memref sig .tc .vmem S58x64x2x128 .bf16) (harg8 : arg8.IsWhole) (hc0 : cond0_0 i)
    (x0 : Vec F S128x1024 .bf16) (x1 : Vec F S512x7424 .i8) (x2 : Vec F S64x7424 .bf16) (x3 : Vec F S64x7424 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, (arg5.view.loc (c : Thread nD τ) ↦[arg5.view.set]{fullShare} f) ∗ ⌜LoopPost c i arg1 harg1 arg2 harg2 arg3 harg3 arg4 harg4 arg5 harg5 arg6 harg6 arg7 harg7 arg8 harg8 x0 x1 x2 x3 k0_pay1 f⌝) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_dense i arg1 harg1 arg2 harg2 arg3 harg3 arg4 harg4 arg5 harg5 arg6 harg6 arg7 harg7 arg8 harg8) K := by
    intro E K
    simp only [cc0_dense_eq_skeleton]; unfold cc0_dense_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitl [H4]; · iexact H4
      ipureintro
      refine ⟨_, _, _, _, ?_, ?_, View.writes_append ..⟩
      · refine (View.read_writes_full arg6.view _ _ _ _).trans ?_
        rw [View.readAt_full, harg1.read_unread]
      · exact View.read_writes_full arg5.view _ _ _ _
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

set_option maxHeartbeats 50088000 in
/-- The body at a later point, the accumulator holding `x4`. -/
theorem kernelRun0_B (c : Dev nD) (i : grid0.Coords) (arg1 : Memref sig .tc .vmem S128x1024 .bf16) (harg1 : arg1.IsWhole) (arg2 : Memref sig .tc .vmem S512x7424 .i8) (harg2 : arg2.IsWhole) (arg3 : Memref sig .tc .vmem S64x7424 .bf16) (harg3 : arg3.IsWhole) (arg4 : Memref sig .tc .vmem S64x7424 .i8) (harg4 : arg4.IsWhole) (arg5 : Memref sig .tc .vmem S128x7424 .f32) (harg5 : arg5.IsWhole) (arg6 : Memref sig .tc .vmem S64x2x1024 .bf16) (harg6 : arg6.IsWhole) (arg7 : Memref sig .tc .vmem S58x64x2x128 .bf16) (harg7 : arg7.IsWhole) (arg8 : Memref sig .tc .vmem S58x64x2x128 .bf16) (harg8 : arg8.IsWhole) (hc0 : ¬cond0_0 i)
    (x0 : Vec F S128x1024 .bf16) (x1 : Vec F S512x7424 .i8) (x2 : Vec F S64x7424 .bf16) (x3 : Vec F S64x7424 .i8) (x4 : Vec F S128x7424 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, (arg5.view.loc (c : Thread nD τ) ↦[arg5.view.set]{fullShare} f) ∗ ⌜LoopPost c i arg1 harg1 arg2 harg2 arg3 harg3 arg4 harg4 arg5 harg5 arg6 harg6 arg7 harg7 arg8 harg8 x0 x1 x2 x3 x4 f⌝) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_dense i arg1 harg1 arg2 harg2 arg3 harg3 arg4 harg4 arg5 harg5 arg6 harg6 arg7 harg7 arg8 harg8) K := by
    intro E K
    simp only [cc0_dense_eq_skeleton]; unfold cc0_dense_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitl [H4]; · iexact H4
      ipureintro
      refine ⟨_, _, _, _, ?_, harg5.read_unread _, rfl⟩
      refine (View.read_writes_full arg6.view _ _ _ _).trans ?_
      rw [View.readAt_full, harg1.read_unread]
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Hand

end
-- ==== Proof.TileValue.lean ====
module

public import proofs.«01_k».proof.Proof.Tile
public import Idealize.ShloMosaic.Lib.Pointwise
public import Idealize.ShloMosaic.Lib.Bf16PairInverse
public import Idealize.ShloMosaic.Lib.BitcastPair

@[expose] public section

/-! One half tile read at an element: row `r` of the tile is the code held in nibble `r % 2` of byte row `r / 2`, less
    the zero of group `r / 16`, times the scale of that group. -/

noncomputable section

namespace Cert.KernelIdeal.Hand

open Cert.KernelIdeal Cert.KernelIdeal.Gen
open Idealize.ShloMosaic Idealize.ShloMosaic.Tactic

/-- The 4-bit code a byte holds: its low nibble for an even row, its high nibble for an odd one. -/
def code (b : BitVec 8) (p : Nat) : Int := if p % 2 = 0 then (b.toNat % 16 : Nat) else (b.toNat / 16 : Nat)

theorem code_congr (b : BitVec 8) {p p' : Nat} (h : p % 2 = p' % 2) : code b p = code b p' := by unfold code; rw [h]

theorem nib_word_fin : ∀ b : Fin 256, ∀ p : Fin 2,
    ((((BitVec.ofFin (w := 8) b).setWidth 32 &&& 15#32) ||| (((BitVec.ofFin (w := 8) b).setWidth 32).sshiftRight 4 <<< 16)).extractLsb' (16 * p.val) 16).toInt
      = code (BitVec.ofFin (w := 8) b) p.val := by decide +kernel

theorem nib_word (b : BitVec 8) (p : Nat) :
    (((b.setWidth 32 &&& 15#32) ||| ((b.setWidth 32).sshiftRight 4 <<< 16)).extractLsb' (16 * (p % 2)) 16).toInt = code b p := by
  have h := nib_word_fin b.toFin ⟨p % 2, Nat.mod_lt _ (by decide)⟩
  rw [BitVec.ofFin_toFin] at h
  refine h.trans ?_
  unfold code
  simp

/-- The unpacked row `r` at a column is the code that nibble `r % 2` of byte row `r / 2` holds. -/
theorem nibRows_apply (w : Vec Ideal S32x128 .i8) (r : Fin 64) (n : Fin 128) :
    nibRows w (ix2 r n) = ((code (w (ix2 (⟨r.val / 2, by omega⟩ : Fin 32) n)) r.val : ℝ) : EReal) := by
  unfold nibRows
  show ((((bitcast S64x128 16 _ _ (ix2 r n) : BitVec 16).toInt : ℝ)) : EReal) = _
  rw [bitcast_32_16]
  congr 2
  rw [← nib_word]
  have hrow : S64x128.row (ix2 r n) = r.val := rfl
  have hidx : ∀ (p : Nat) (hp : ∀ a : Fin S32x128.rank, a.val + 2 = S32x128.rank → p < S32x128.size a) (hpr : p = r.val / 2),
      bitcasts_S32x128_w32_S64x128_w16.srcIdx (ix2 r n) p hp = ix2 (⟨r.val / 2, by omega⟩ : Fin 32) n := by
    intro p hp hpr
    funext a
    apply Fin.ext
    fin_cases a
    · rw [Shape.Bitcasts.srcIdx_row _ _ _ _ _ rfl]; exact hpr
    · rw [Shape.Bitcasts.srcIdx_other _ _ _ _ _ (by decide)]; rfl
  rw [hidx _ _ (by rw [hrow])]
  rfl

/-- The repeated row is the first of the stored pair. -/
theorem groupRow_apply (r : Vec Ideal S1x1x2x128 .bf16) (i : Fin 16) (n : Fin 128) :
    groupRow r (ix2 i n) = r (ix4 (0 : Fin 1) (0 : Fin 1) (0 : Fin 2) n) := by
  unfold groupRow
  pointwise

theorem groupW_apply (q : Fin 4) (nib : FVec Ideal S64x128 .bf16) (sr zr : Vec Ideal S1x1x2x128 .bf16) (i : Fin 16) (n : Fin 128) :
    groupW q nib sr zr (ix2 i n)
      = (nib (ix2 (⟨16 * q.val + i.val, by omega⟩ : Fin 64) n) - zr (ix4 (0 : Fin 1) (0 : Fin 1) (0 : Fin 2) n))
        * sr (ix4 (0 : Fin 1) (0 : Fin 1) (0 : Fin 2) n) := by
  unfold groupW
  show (extractStridedSlice S16x128 ![16 * q.val, 0] nib (slices_group q) (ix2 i n) - groupRow zr (ix2 i n)) * groupRow sr (ix2 i n) = _
  rw [groupRow_apply, groupRow_apply,
    extractStridedSlice_apply ![16 * q.val, 0] nib (slices_group q) (ix2 i n) (ix2 (⟨16 * q.val + i.val, by omega⟩ : Fin 64) n)
      (by intro a; fin_cases a <;> simp)]

/-- Half a tile at row `r`, column `n`: code less zero, times scale. -/
theorem halfW_apply (wl : Fin 16 → Vec Ideal S32x128 .i8) (sr zr : Fin 64 → Vec Ideal S1x1x2x128 .bf16) (r : Fin 1024) (n : Fin 128) :
    halfW wl sr zr (ix2 r n)
      = (((code (wl ⟨r.val / 64, by omega⟩ (ix2 (⟨r.val % 64 / 2, by omega⟩ : Fin 32) n)) r.val : ℝ) : EReal)
          - zr ⟨r.val / 16, by omega⟩ (ix4 (0 : Fin 1) (0 : Fin 1) (0 : Fin 2) n))
        * sr ⟨r.val / 16, by omega⟩ (ix4 (0 : Fin 1) (0 : Fin 1) (0 : Fin 2) n) := by
  unfold halfW
  refine (concatenate_ofFn_apply (s₁ := S16x128) (t := S1024x128) 0
    (fun g : Fin 64 => groupW (F := Ideal) ⟨g.val % 4, Nat.mod_lt _ (by decide)⟩ (nibRows (wl ⟨g.val / 4, by omega⟩)) (sr g) (zr g))
    _ rfl 16 rfl (ix2 r n) ⟨r.val / 16, by omega⟩ rfl (ix2 (⟨r.val % 16, by omega⟩ : Fin 16) n) rfl ?_).trans ?_
  · intro b hb
    fin_cases b
    · exact absurd rfl hb
    · rfl
  · rw [groupW_apply, nibRows_apply]
    have e1 : (⟨r.val / 16 / 4, by omega⟩ : Fin 16) = ⟨r.val / 64, by omega⟩ := Fin.ext (by show r.val / 16 / 4 = r.val / 64; omega)
    have e2 : (⟨(16 * (r.val / 16 % 4) + r.val % 16) / 2, by omega⟩ : Fin 32) = ⟨r.val % 64 / 2, by omega⟩ :=
      Fin.ext (by show (16 * (r.val / 16 % 4) + r.val % 16) / 2 = r.val % 64 / 2; omega)
    have e3 : ∀ b, code b (16 * (r.val / 16 % 4) + r.val % 16) = code b r.val := fun b => code_congr b (by omega)
    simp only [e1, e2, e3]

end Cert.KernelIdeal.Hand

end
-- ==== Proof.TripValue.lean ====
module

public import proofs.«01_k».proof.Proof.TileValue
public import Idealize.ShloMosaic.Lib.WritesUnit
public import Idealize.ShloMosaic.Lib.Pipeline.FrameBody

@[expose] public section

/-! The value one trip of the column loop stores, element by element: what the columns held plus the product of the
    activation block with the dequantised weight block. -/

noncomputable section

namespace Cert.KernelIdeal.Hand

open Cert.KernelIdeal Cert.KernelIdeal.Gen
open Idealize.ShloMosaic Idealize.ShloMosaic.Tactic
open scoped BigOperators

/-- A zero point's value. -/
def zpt (b : BitVec 8) : EReal := (((b.setWidth 32).toInt : ℝ) : EReal)

/-- The dequantised weight of a block at row `r`, column `n`: `(code - zero) * scale`. -/
def wt (x1 : Vec Ideal S512x7424 .i8) (x2 : Vec Ideal S64x7424 .bf16) (x3 : Vec Ideal S64x7424 .i8) (r : Fin 1024) (n : Fin 7424) : EReal :=
  (((code (x1 (ix2 (⟨r.val / 2, by omega⟩ : Fin 512) n)) r.val : ℝ) : EReal) - zpt (x3 (ix2 (⟨r.val / 16, by omega⟩ : Fin 64) n)))
    * x2 (ix2 (⟨r.val / 16, by omega⟩ : Fin 64) n)

/-- What a point of the grid leaves in the accumulator, from what it finds and its four blocks. -/
def stepVal (x0 : Vec Ideal S128x1024 .bf16) (x1 : Vec Ideal S512x7424 .i8) (x2 : Vec Ideal S64x7424 .bf16) (x3 : Vec Ideal S64x7424 .i8)
    (acc : Vec Ideal S128x7424 .f32) : Vec Ideal S128x7424 .f32 :=
  fun j => acc j + ∑ r : Fin 1024, x0 (ix2 (n0 := 128) (j 0) r) * wt x1 x2 x3 r (j 1)

/-- The stored scale rows: row `g` of either of the pair is row `g` of the scales. -/
theorem pay3_apply (v : Vec Ideal S64x128 .bf16) (g : Fin 64) (n : Fin 128) :
    k0_pay3 v (ix4 (0 : Fin 1) g (0 : Fin 2) n) = v (ix2 g n) := by
  unfold k0_pay3
  pointwise

/-- The stored zero points: row `g` of either of the pair is row `g` of the zero points, as values. -/
theorem pay4_apply (v : Vec Ideal S64x128 .i8) (g : Fin 64) (n : Fin 128) :
    k0_pay4 (F := Ideal) v (ix4 (0 : Fin 1) g (0 : Fin 2) n) = zpt (v (ix2 g n)) := by
  unfold k0_pay4 zpt
  pointwise
  rfl

/-- The activations stored as word rows and read back are the activations. -/
theorem actRows_pay2 (x0 : Vec Ideal S128x1024 .bf16) : actRows (k0_pay2 x0) = x0 := by
  unfold actRows k0_pay2
  rw [rowsOfParity_zero_interleaveRows, rowsOfParity_one_interleaveRows]
  simp only [shapeCast_shapeCast, interleaveRows_rowsOfParity, shapeCast_self]

theorem tripOut_apply (acc : Vec Ideal S128x256 .f32) (x0 : Vec Ideal S128x1024 .bf16) (h0 h1 : FVec Ideal S1024x128 .bf16) (b : Fin 128) (q : Fin 256) :
    tripOut acc (k0_pay2 x0) h0 h1 (ix2 b q)
      = acc (ix2 b q) + ∑ r : Fin 1024, x0 (ix2 b r)
          * (if h : q.val < 128 then h0 (ix2 r (⟨q.val, h⟩ : Fin 128)) else h1 (ix2 r (⟨q.val - 128, by omega⟩ : Fin 128))) := by
  unfold tripOut
  rw [actRows_pay2]
  pointwise

/-- A half tile of trip `k` at an element: the block's dequantised weight at column `256k + 128h + n`. -/
theorem runHalf_apply (arg2 : Memref sig .tc .vmem S512x7424 .i8) (arg3 : Memref sig .tc .vmem S64x7424 .bf16)
    (arg4 : Memref sig .tc .vmem S64x7424 .i8) (arg7 arg8 : Memref sig .tc .vmem S58x64x2x128 .bf16)
    (X2 : BufTy.Contents (Elt Ideal) arg2.view.ty) (X3 : BufTy.Contents (Elt Ideal) arg3.view.ty) (X4 : BufTy.Contents (Elt Ideal) arg4.view.ty)
    (k : Fin k0_t1_loop.trips) (h : Fin 2) (r : Fin 1024) (n : Fin 128) (y : Fin 7424) (hy : y.val = 256 * k.val + 128 * h.val + n.val) :
    runHalf arg2 arg3 arg4 arg7 arg8 X2 X3 X4 k h (ix2 r n)
      = wt (arg2.view.read (Elt Ideal) X2) (arg3.view.read (Elt Ideal) X3) (arg4.view.read (Elt Ideal) X4) r y := by
  unfold runHalf wt
  rw [halfW_apply]
  have hW : View.readAt (Elt Ideal) arg2.view (Rect.unit (s := S512x7424) (offW k h ⟨r.val / 64, by omega⟩) S32x128.size (offW_inb k h _)).toLoadRect X2
        (ix2 (⟨r.val % 64 / 2, by omega⟩ : Fin 32) n)
      = arg2.view.read (Elt Ideal) X2 (ix2 (⟨r.val / 2, by omega⟩ : Fin 512) y) := by
    rw [View.readAt_apply]
    refine congrArg _ (funext fun a => Fin.ext ?_)
    rw [LoadRect.idx_apply]
    fin_cases a
    · simp [Rect.unit, offW_eq]; omega
    · simp [Rect.unit, offW_eq]; omega
  have hS : arg7.view.readCov (scalePieces arg3 X3 k h)
        (Rect.unit (s := S58x64x2x128) (offG k h ⟨r.val / 16, by omega⟩) S1x1x2x128.size (offG_inb k h _)).toLoadRect (ix4 (0 : Fin 1) (0 : Fin 1) (0 : Fin 2) n)
      = arg3.view.read (Elt Ideal) X3 (ix2 (⟨r.val / 16, by omega⟩ : Fin 64) y) := by
    unfold View.readCov
    rw [View.readAt_apply]
    have hl : ∃ L, scalePieces arg3 X3 k h = scalePiece arg3 X3 k h :: L := by
      fin_cases h
      · exact ⟨_, rfl⟩
      · exact ⟨_, rfl⟩
    obtain ⟨L, hL⟩ := hl
    rw [hL]
    unfold scalePiece
    refine (View.read_writes_cons_unit_of_mem (size := S1x64x2x128.size) arg7.view _ _ _ _ _
      (ix4 (0 : Fin 1) (⟨r.val / 16, by omega⟩ : Fin 64) (0 : Fin 2) n) (k0_off2_eq k h) ?_).trans ?_
    rotate_left
    · rw [pay3_apply, View.readAt_apply]
      refine congrArg _ (funext fun a => Fin.ext ?_)
      rw [LoadRect.idx_apply]
      fin_cases a
      · simp [Rect.unit, k0_off1_eq]
      · simp [Rect.unit, k0_off1_eq]; omega
    · intro a
      rw [LoadRect.idx_apply]
      fin_cases a <;> simp [Rect.unit, offG_eq]
  have hZ : arg8.view.readCov (zeroPieces arg4 X4 k h)
        (Rect.unit (s := S58x64x2x128) (offG k h ⟨r.val / 16, by omega⟩) S1x1x2x128.size (offG_inb k h _)).toLoadRect (ix4 (0 : Fin 1) (0 : Fin 1) (0 : Fin 2) n)
      = zpt (arg4.view.read (Elt Ideal) X4 (ix2 (⟨r.val / 16, by omega⟩ : Fin 64) y)) := by
    unfold View.readCov
    rw [View.readAt_apply]
    have hl : ∃ L, zeroPieces arg4 X4 k h = zeroPiece arg4 X4 k h :: L := by
      fin_cases h
      · exact ⟨_, rfl⟩
      · exact ⟨_, rfl⟩
    obtain ⟨L, hL⟩ := hl
    rw [hL]
    unfold zeroPiece
    refine (View.read_writes_cons_unit_of_mem (size := S1x64x2x128.size) arg8.view _ _ _ _ _
      (ix4 (0 : Fin 1) (⟨r.val / 16, by omega⟩ : Fin 64) (0 : Fin 2) n) (k0_off2_eq k h) ?_).trans ?_
    rotate_left
    · rw [pay4_apply, View.readAt_apply]
      refine congrArg _ (congrArg _ (funext fun a => Fin.ext ?_))
      rw [LoadRect.idx_apply]
      fin_cases a
      · simp [Rect.unit, k0_off1_eq]
      · simp [Rect.unit, k0_off1_eq]; omega
    · intro a
      rw [LoadRect.idx_apply]
      fin_cases a <;> simp [Rect.unit, offG_eq]
  rw [hW, hS, hZ]

/-- The whole store of trip `k` at an element: `stepVal` at column `256k + q` over what that column held. -/
theorem trip_apply (arg2 : Memref sig .tc .vmem S512x7424 .i8) (arg3 : Memref sig .tc .vmem S64x7424 .bf16)
    (arg4 : Memref sig .tc .vmem S64x7424 .i8) (arg7 arg8 : Memref sig .tc .vmem S58x64x2x128 .bf16)
    (X2 : BufTy.Contents (Elt Ideal) arg2.view.ty) (X3 : BufTy.Contents (Elt Ideal) arg3.view.ty) (X4 : BufTy.Contents (Elt Ideal) arg4.view.ty)
    (k : Fin k0_t1_loop.trips) (acc : Vec Ideal S128x256 .f32) (x0 : Vec Ideal S128x1024 .bf16) (b : Fin 128) (q : Fin 256)
    (y : Fin 7424) (hy : y.val = 256 * k.val + q.val) :
    tripOut acc (k0_pay2 x0) (runHalf arg2 arg3 arg4 arg7 arg8 X2 X3 X4 k 0) (runHalf arg2 arg3 arg4 arg7 arg8 X2 X3 X4 k 1) (ix2 b q)
      = acc (ix2 b q) + ∑ r : Fin 1024, x0 (ix2 b r)
          * wt (arg2.view.read (Elt Ideal) X2) (arg3.view.read (Elt Ideal) X3) (arg4.view.read (Elt Ideal) X4) r y := by
  rw [tripOut_apply]
  refine congrArg _ (Finset.sum_congr rfl fun r _ => congrArg _ ?_)
  split
  · exact runHalf_apply arg2 arg3 arg4 arg7 arg8 X2 X3 X4 k 0 r _ y (by simpa using hy)
  · refine runHalf_apply arg2 arg3 arg4 arg7 arg8 X2 X3 X4 k 1 r _ y ?_
    show y.val = 256 * k.val + 128 * 1 + (q.val - 128)
    omega

end Cert.KernelIdeal.Hand

end
-- ==== Proof.LoopValue.lean ====
module

public import proofs.«01_k».proof.Proof.IdealRun
public import proofs.«01_k».proof.Proof.TripValue

@[expose] public section

/-! What the column loop leaves in the accumulator: every column at `stepVal` over what it held at loop entry. -/

set_option maxRecDepth 16384

noncomputable section

namespace Cert.KernelIdeal.Hand

open Cert.KernelIdeal Cert.KernelIdeal.Gen
open Idealize.ShloMosaic Idealize.ShloMosaic.TcCoe Idealize.ShloMosaic.Tactic

theorem trips_eq : k0_t1_loop.trips = 29 := by decide +kernel

set_option maxHeartbeats 1000000 in
/-- Before trip `j` the columns below `256 j` hold `stepVal`, the others what they held at loop entry. -/
theorem loop_read (c : Dev nD) (i : grid0.Coords) (arg1 : Memref sig .tc .vmem S128x1024 .bf16) (harg1 : arg1.IsWhole) (arg2 : Memref sig .tc .vmem S512x7424 .i8) (harg2 : arg2.IsWhole) (arg3 : Memref sig .tc .vmem S64x7424 .bf16) (harg3 : arg3.IsWhole) (arg4 : Memref sig .tc .vmem S64x7424 .i8) (harg4 : arg4.IsWhole) (arg5 : Memref sig .tc .vmem S128x7424 .f32) (harg5 : arg5.IsWhole) (arg6 : Memref sig .tc .vmem S64x2x1024 .bf16) (harg6 : arg6.IsWhole) (arg7 : Memref sig .tc .vmem S58x64x2x128 .bf16) (harg7 : arg7.IsWhole) (arg8 : Memref sig .tc .vmem S58x64x2x128 .bf16) (harg8 : arg8.IsWhole)
    (X2 : BufTy.Contents (Elt Ideal) arg2.view.ty) (X3 : BufTy.Contents (Elt Ideal) arg3.view.ty) (X4 : BufTy.Contents (Elt Ideal) arg4.view.ty)
    (X6 : BufTy.Contents (Elt Ideal) arg6.view.ty) (G5 : BufTy.Contents (Elt Ideal) arg5.view.ty)
    (G7 : BufTy.Contents (Elt Ideal) arg7.view.ty) (G8 : BufTy.Contents (Elt Ideal) arg8.view.ty)
    (x0 : Vec Ideal S128x1024 .bf16) (h6 : arg6.view.read (Elt Ideal) X6 = k0_pay2 x0) (j : ℕ) (hj : j ≤ k0_t1_loop.trips) (b : Fin 128) (y : Fin 7424) :
    arg5.view.read (Elt Ideal) (arg5.view.writes (Elt Ideal) G5 (pb_k0_t1 (F := Ideal) Variants.none c none i arg1 harg1 arg2 harg2 arg3 harg3 arg4 harg4 arg5 harg5 arg6 harg6 arg7 harg7 arg8 harg8 X2 X3 X4 X6 G5 G7 G8 j).1) (ix2 b y)
      = if y.val < 256 * j then
          stepVal x0 (arg2.view.read (Elt Ideal) X2) (arg3.view.read (Elt Ideal) X3) (arg4.view.read (Elt Ideal) X4) (arg5.view.read (Elt Ideal) G5) (ix2 b y)
        else arg5.view.read (Elt Ideal) G5 (ix2 b y) := by
  induction j generalizing b y with
  | zero => rw [if_neg (by omega)]; rfl
  | succ j ih =>
    have ih := ih (Nat.le_of_succ_le hj)
    have hs := pb_k0_t1_succ (F := Ideal) Variants.none c none i arg1 harg1 arg2 harg2 arg3 harg3 arg4 harg4 arg5 harg5 arg6 harg6 arg7 harg7 arg8 harg8 X2 X3 X4 X6 G5 G7 G8 ⟨j, hj⟩
    simp only [] at hs
    rw [hs]
    clear hs
    dsimp only
    rw [trip_piece]
    rw [View.readAt_full, h6, List.singleton_append]
    generalize hL : (pb_k0_t1 (F := Ideal) Variants.none c none i arg1 harg1 arg2 harg2 arg3 harg3 arg4 harg4 arg5 harg5 arg6 harg6 arg7 harg7 arg8 harg8 X2 X3 X4 X6 G5 G7 G8 j).1 = L at ih ⊢
    by_cases h1 : 256 * j ≤ y.val ∧ y.val < 256 * (j + 1)
    · rw [if_pos h1.2]
      have hq : y.val - 256 * j < 256 := by omega
      refine (View.read_writes_cons_unit_of_mem (s := S128x7424) (size := S128x256.size) arg5.view _ _ _ _ (ix2 b y)
        (ix2 b (⟨y.val - 256 * j, hq⟩ : Fin 256)) (k0_off83_eq ⟨j, hj⟩) ?_).trans ?_
      · intro a
        fin_cases a
        · simp
        · simp; omega
      · refine (trip_apply arg2 arg3 arg4 arg7 arg8 X2 X3 X4 ⟨j, hj⟩ _ x0 b ⟨y.val - 256 * j, hq⟩ y (by simp; omega)).trans ?_
        unfold stepVal
        refine congrArg₂ (· + ·) ?_ rfl
        rw [View.readAt_apply]
        have hidx : (Rect.unit (s := S128x7424) (k0_off83 ⟨j, hj⟩) S128x256.size (k0_off83_inb ⟨j, hj⟩)).toLoadRect.idx (ix2 b (⟨y.val - 256 * j, hq⟩ : Fin 256)) = ix2 b y := by
          funext a
          apply Fin.ext
          rw [LoadRect.idx_apply]
          fin_cases a
          · simp [Rect.unit, k0_off83_eq]
          · simp [Rect.unit, k0_off83_eq]; omega
        rw [hidx, ih b y, if_neg (by omega)]
    · refine (View.read_writes_cons_unit_of_not_mem (s := S128x7424) (size := S128x256.size) arg5.view _ _ _ _ (ix2 b y)
        (k0_off83_eq ⟨j, hj⟩) 1 ?_).trans ?_
      · simp; omega
      · rw [ih b y]
        by_cases h2 : y.val < 256 * j
        · rw [if_pos h2, if_pos (by omega)]
        · rw [if_neg h2, if_neg (by omega)]

/-- The accumulator after the body reads `stepVal` over what it held. -/
theorem LoopPost.read_eq {c : Dev nD} {i : grid0.Coords} {arg1 : Memref sig .tc .vmem S128x1024 .bf16} {harg1 : arg1.IsWhole} {arg2 : Memref sig .tc .vmem S512x7424 .i8} {harg2 : arg2.IsWhole} {arg3 : Memref sig .tc .vmem S64x7424 .bf16} {harg3 : arg3.IsWhole} {arg4 : Memref sig .tc .vmem S64x7424 .i8} {harg4 : arg4.IsWhole} {arg5 : Memref sig .tc .vmem S128x7424 .f32} {harg5 : arg5.IsWhole} {arg6 : Memref sig .tc .vmem S64x2x1024 .bf16} {harg6 : arg6.IsWhole} {arg7 : Memref sig .tc .vmem S58x64x2x128 .bf16} {harg7 : arg7.IsWhole} {arg8 : Memref sig .tc .vmem S58x64x2x128 .bf16} {harg8 : arg8.IsWhole}
    {x0 : Vec Ideal S128x1024 .bf16} {x1 : Vec Ideal S512x7424 .i8} {x2 : Vec Ideal S64x7424 .bf16} {x3 : Vec Ideal S64x7424 .i8}
    {g : Vec Ideal S128x7424 .f32} {f : BufTy.Contents (Elt Ideal) arg5.view.ty}
    (h : LoopPost (F := Ideal) c i arg1 harg1 arg2 harg2 arg3 harg3 arg4 harg4 arg5 harg5 arg6 harg6 arg7 harg7 arg8 harg8 x0 x1 x2 x3 g f) :
    arg5.view.read (Elt Ideal) f = stepVal x0 x1 x2 x3 g := by
  obtain ⟨X6, G5, G7, G8, h6, h5, rfl⟩ := h
  funext z
  obtain ⟨b, y, rfl⟩ : ∃ (b : Fin 128) (y : Fin 7424), z = ix2 b y := ⟨z 0, z 1, eq_ix2 z⟩
  rw [loop_read (h6 := h6) (hj := le_refl _), h5, harg2.read_unread, harg3.read_unread, harg4.read_unread, if_pos (by rw [trips_eq]; omega)]

end Cert.KernelIdeal.Hand

end
-- ==== Proof.IdealFrame.lean ====
module

public import proofs.«01_k».proof.Proof.LoopValue
public import Idealize.ShloMosaic.Lib.Claim
public import Idealize.ShloMosaic.Lib.Pipeline.ValueKit

@[expose] public section

/-! The idealized kernel's run: every grid point adds its block's product into the accumulator, and the result array ends
    holding what the eight points accumulate. From it, the frame claim of `KernelIdeal`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the accumulator holds before grid point `n`: zero, then each point's `stepVal`. -/
def accVal (c : Dev nD) : ℕ → Vec Ideal S128x7424 .f32
  | 0 => k0_pay1 (F := Ideal)
  | n + 1 => if h : n < cfg0.N then
      stepVal (iblk m c 0 ⟨n, h⟩) (iblk m c 1 ⟨n, h⟩) (iblk m c 2 ⟨n, h⟩) (iblk m c 3 ⟨n, h⟩) (accVal c n)
    else accVal c n

theorem accVal_succ (c : Dev nD) (t : Fin cfg0.N) :
    accVal m c (t.val + 1) = stepVal (iblk m c 0 t) (iblk m c 1 t) (iblk m c 2 t) (iblk m c 3 t) (accVal m c t.val) := by
  rw [accVal, dif_pos t.isLt]

/-! ## The pipeline's proof data -/

/-- The proof data of the one pipeline on core `c`: the arrays as the region finds them (`V`); after the body at
    point `t` each input's buffer at its block and the accumulator at `accVal`; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accVal m c (t.val + 1)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem after0_4 (c : Dev nD) (t : Fin cfg0.N) : (dats m 0 c).after 4 t = accVal m c (t.val + 1) := by dsimp only [dats]

/-- Past the first point the accumulator's buffer holds what the point before left in it. -/
theorem before0_4 (c : Dev nD) (t : Fin cfg0.N) (h0 : ¬ t.val % 8 = 0) (d) : (dats m 0 c).before 4 t d = accVal m c t.val := by
  have hN : t.val < 8 := lt_of_lt_of_eq t.isLt (show cfg0.N = 8 from N_0)
  have ht : t.val ≠ 0 := fun h => h0 (by rw [h])
  rw [(dats m 0 c).before_out_kept 4 rfl t ht ?_ (fun _ => rfl) (fun _ _ => rfl) d, after0_4]
  · congr 1
    show t.val - 1 + 1 = t.val
    omega
  · rw [← Bool.not_eq_true, flush0_4]
    show ¬ (t.val - 1) % 8 = 7
    omega

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, accVal_succ]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · have hz : accVal m c t.val = k0_pay1 (F := Ideal) := by rw [show t.val = 0 by omega, accVal]
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    icases H4 with ⟨%f4, H4, %hp⟩
    unfold owns
    iexists f4; isplitr; swap; · iexact H4
    ipureintro; rw [hz]; exact hp.read_eq
  · simp only [before0_4 m c t h0]
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (accVal m c t.val)) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    icases H4 with ⟨%f4, H4, %hp⟩
    unfold owns
    iexists f4; isplitr; swap; · iexact H4
    ipureintro; exact hp.read_eq

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
/-- From any memory with zero counters every run ends, with every array of the pipeline at what the proof data names and
    every counter at zero. -/
theorem run_main : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The result array ends at what the eight points accumulate. -/
theorem arr_out (c : Dev nD) : (dats m 0 c).arrAt 4 cfg0.N = accVal m c 8 := by
  funext i
  refine ((dats m 0 c).arrAt_emb_eq_after_last 4 ⟨7, by rw [show cfg0.N = 8 from N_0]; decide⟩ (by decide +kernel) i).trans ?_
  rw [after0_4]
  rfl

end Cert.KernelIdeal.Hand

end
-- ==== Proof.ReferenceValue.lean ====
module

public import proofs.«01_k».proof.Proof.Gen.ReferenceIdeal.Run
public import Idealize.ShloMosaic.Lib.Pointwise
public import Idealize.ShloMosaic.Lib.Quiescent

@[expose] public section

/-! The reference's value, element by element. -/

set_option maxRecDepth 16384

noncomputable section

namespace Cert.ReferenceIdeal.Hand

open Cert.ReferenceIdeal Cert.ReferenceIdeal.Gen
open Idealize.ShloMosaic Idealize.ShloMosaic.TcCoe Idealize.SL.Sem

/-- The dequantized weights of one nibble: codes minus zero points, times scales, eight packed rows to a group. -/
def deq (codes : IVec S4096x7424 32) (s : FVec Ideal S512x7424 .bf16) (z : IVec S512x7424 8) : FVec Ideal S4096x7424 .bf16 :=
  shapeCast _ (mulf (subf (shapeCast _ (sitofp .bf16 codes) shapeCasts_S4096x7424_S512x8x7424)
      (broadcastInDim S512x8x7424 ![0, 1, 2] bcast_S512x1x7424_S512x8x7424_0_1_2
        (broadcastInDim S512x1x7424 ![0, 2] bcast_S512x7424_S512x1x7424_0_2 (sitofp .bf16 (extui 32 z natLt_8_32)))))
    (broadcastInDim S512x8x7424 ![0, 1, 2] bcast_S512x1x7424_S512x8x7424_0_1_2
      (broadcastInDim S512x1x7424 ![0, 2] bcast_S512x7424_S512x1x7424_0_2 s))) shapeCasts_S512x8x7424_S4096x7424

theorem deq_apply (codes : IVec S4096x7424 32) (s : FVec Ideal S512x7424 .bf16) (z : IVec S512x7424 8) (j : Fin 4096) (n : Fin 7424) :
    deq codes s z (ix2 j n)
      = ((((codes (ix2 j n)).toInt : ℝ) : EReal) - ((((z (ix2 (⟨j.val / 8, by omega⟩ : Fin 512) n)).setWidth 32).toInt : ℝ) : EReal))
        * s (ix2 (⟨j.val / 8, by omega⟩ : Fin 512) n) := by
  pointwise [deq]
  rfl

/-- The reference's result as one term of its four arguments. -/
def refOut (x : FVec Ideal S128x1x8192 .bf16) (w : IVec S4096x7424 8) (s : FVec Ideal S512x7424 .bf16) (z : IVec S512x7424 8) : FVec Ideal S128x7424 .f32 :=
  shapeCast _ (addf
    (Host.dotGeneral dot_S128x1x4096_S4096x7424_S128x1x7424_2_0_01_1_n_n none
      (Host.slice S128x1x4096 ![0, 0, 0] ![1, 1, 2] x slicesBy_S128x1x8192_S128x1x4096_0s1_0s1_0s2)
      (deq (andi (extui 32 w natLt_8_32) (broadcastInDim S4096x7424 ![] bcast_S_S4096x7424 (constantI S_ 32 15#32))) s z))
    (Host.dotGeneral dot_S128x1x4096_S4096x7424_S128x1x7424_2_0_01_1_n_n none
      (Host.slice S128x1x4096 ![0, 0, 1] ![1, 1, 2] x slicesBy_S128x1x8192_S128x1x4096_0s1_0s1_1s2)
      (deq (Host.shrsi (extui 32 w natLt_8_32) (broadcastInDim S4096x7424 ![] bcast_S_S4096x7424 (constantI S_ 32 4#32))) s z)))
    shapeCasts_S128x1x7424_S128x7424

theorem refOut_apply (x : FVec Ideal S128x1x8192 .bf16) (w : IVec S4096x7424 8) (s : FVec Ideal S512x7424 .bf16) (z : IVec S512x7424 8) (b : Fin 128) (n : Fin 7424) :
    refOut x w s z (ix2 b n)
      = (∑ j : Fin 4096, x (ix3 b (0 : Fin 1) (⟨2 * j.val, by omega⟩ : Fin 8192)) *
          deq (andi (extui 32 w natLt_8_32) (broadcastInDim S4096x7424 ![] bcast_S_S4096x7424 (constantI S_ 32 15#32))) s z (ix2 j n))
        + ∑ j : Fin 4096, x (ix3 b (0 : Fin 1) (⟨1 + 2 * j.val, by omega⟩ : Fin 8192)) *
          deq (Host.shrsi (extui 32 w natLt_8_32) (broadcastInDim S4096x7424 ![] bcast_S_S4096x7424 (constantI S_ 32 4#32))) s z (ix2 j n) := by
  unfold refOut
  generalize deq _ s z = w0
  generalize deq _ s z = w1
  pointwise

theorem low_apply (w : IVec S4096x7424 8) (j : Fin 4096) (n : Fin 7424) :
   andi (extui 32 w natLt_8_32) (broadcastInDim S4096x7424 ![] bcast_S_S4096x7424 (constantI S_ 32 15#32)) (ix2 j n) = (w (ix2 j n)).setWidth 32 &&& 15#32 := rfl
theorem high_apply (w : IVec S4096x7424 8) (j : Fin 4096) (n : Fin 7424) :
   Host.shrsi (extui 32 w natLt_8_32) (broadcastInDim S4096x7424 ![] bcast_S_S4096x7424 (constantI S_ 32 4#32)) (ix2 j n) = BitVec.sshiftRight ((w (ix2 j n)).setWidth 32) 4 := by
  pointwise
  rfl

/-- The reference runs to its result, its arguments unchanged, every counter at zero. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v30)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨h, sem_eq_zero_of_no_sems (by decide) r.2⟩) (Value.run m ρ)

end Cert.ReferenceIdeal.Hand

end
-- ==== Proof.Blocks.lean ====
module

public import proofs.«01_k».proof.Proof.IdealFrame
public import Idealize.ShloMosaic.Lib.Pointwise

@[expose] public section

/-! The input blocks of a grid point, element by element, as elements of the argument arrays. -/

noncomputable section

namespace Cert.KernelIdeal.Hand

open Cert.KernelIdeal Cert.KernelIdeal.Gen
open Idealize.ShloMosaic Idealize.ShloMosaic.TcCoe Idealize.ShloMosaic.Tactic
open Idealize.ShloMosaic.Pipeline

variable (m : (ℓ : Loc nD τ sig) → Buf (Elt Ideal) ℓ)

theorem index0 : ∀ t : Fin cfg0.N, win0_0.index t = ![0, t.val] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

theorem N_lt (t : Fin cfg0.N) : t.val < 8 := lt_of_lt_of_eq t.isLt (show cfg0.N = 8 from N_0)

/-- Dropping the middle axis of extent one. -/
theorem drop_middle {α : Type} (x : S128x1x8192.Idx → α) (b : Fin 128) (r : Fin 8192) :
    shapeCast S128x8192 x shapeCasts_S128x1x8192_S128x8192 (ix2 b r) = x (ix3 b (0 : Fin 1) r) := by
  pointwise

/-- The activations as the kernel reads them: the argument with its middle axis of extent one dropped. -/
theorem V_main_v0 (c : Dev nD) (b : Fin 128) (r : Fin 8192) :
    V m c main_v0 (ix2 b r) = m ((c : Thread nD τ).loc main_arg0) (ix3 b (0 : Fin 1) r) := by
  have h : V m c main_v0 = shapeCast S128x8192 (m ((c : Thread nD τ).loc main_arg0)) shapeCasts_S128x1x8192_S128x8192 := by
    show StableHlo.after hostOps0 _ (Proc.devRef .tc main_v0) = _
    after_results
    rfl
  rw [h]
  exact drop_middle _ b r

/-- Rows of the packed weights: block `t` starts at row `512 t`. -/
theorem blk1 (c : Dev nD) (t : Fin cfg0.N) (r : Fin 512) (n : Fin 7424) :
    iblk m c 1 t (ix2 r n) = m ((c : Thread nD τ).loc main_arg1) (ix2 (⟨512 * t.val + r.val, by have := N_lt t; omega⟩ : Fin 4096) n) := by
  blk_simp [iblk]
  rw [V_main_arg1]
  blk_ext [index1]

theorem blk2 (c : Dev nD) (t : Fin cfg0.N) (r : Fin 64) (n : Fin 7424) :
    iblk m c 2 t (ix2 r n) = m ((c : Thread nD τ).loc main_arg2) (ix2 (⟨64 * t.val + r.val, by have := N_lt t; omega⟩ : Fin 512) n) := by
  blk_simp [iblk]
  rw [V_main_arg2]
  blk_ext [index2]

theorem blk3 (c : Dev nD) (t : Fin cfg0.N) (r : Fin 64) (n : Fin 7424) :
    iblk m c 3 t (ix2 r n) = m ((c : Thread nD τ).loc main_arg3) (ix2 (⟨64 * t.val + r.val, by have := N_lt t; omega⟩ : Fin 512) n) := by
  blk_simp [iblk]
  rw [V_main_arg3]
  blk_ext [index3]

theorem blk0 (c : Dev nD) (t : Fin cfg0.N) (b : Fin 128) (r : Fin 1024) :
    iblk m c 0 t (ix2 b r) = m ((c : Thread nD τ).loc main_arg0) (ix3 b (0 : Fin 1) (⟨1024 * t.val + r.val, by have := N_lt t; omega⟩ : Fin 8192)) := by
  rw [← V_main_v0 m]
  blk_ext [iblk, index0]

end Cert.KernelIdeal.Hand

end
-- ==== Proof.Algebra.lean ====
module

public import proofs.«01_k».proof.Proof.Blocks
public import proofs.«01_k».proof.Proof.ReferenceValue

@[expose] public section

/-! The eight accumulated blocks are the reference's two half products: both are the sum over the 8192 positions
    of the contracted axis, the kernel's cut into eight blocks of 1024, the reference's into even and odd positions. -/

set_option maxRecDepth 16384

noncomputable section

namespace Cert.KernelIdeal.Hand

open Cert.KernelIdeal Cert.KernelIdeal.Gen
open Idealize.ShloMosaic Idealize.ShloMosaic.TcCoe
open Finset

/-! ## Sums over a range, cut in blocks and by parity -/

theorem sum_blocks {M : Type} [AddCommMonoid M] (f : ℕ → M) (n : ℕ) :
    ∀ k : ℕ, ∑ t ∈ range k, ∑ r ∈ range n, f (n * t + r) = ∑ i ∈ range (n * k), f i
  | 0 => by simp
  | k + 1 => by rw [sum_range_succ, sum_blocks f n k, Nat.mul_succ, sum_range_add]

theorem sum_parity {M : Type} [AddCommMonoid M] (f : ℕ → M) :
    ∀ n : ℕ, ∑ i ∈ range (2 * n), f i = ∑ j ∈ range n, f (2 * j) + ∑ j ∈ range n, f (1 + 2 * j)
  | 0 => by simp
  | n + 1 => by
    rw [Nat.mul_succ, sum_range_succ, sum_range_succ, sum_parity f n, sum_range_succ, sum_range_succ, add_comm 1 (2 * n)]
    abel

/-! ## The codes -/

theorem code_even_fin : ∀ b : Fin 256, (((BitVec.ofFin (w := 8) b).setWidth 32) &&& 15#32).toInt = code (BitVec.ofFin (w := 8) b) 0 := by
  decide +kernel

theorem code_odd_fin : ∀ b : Fin 256, (((BitVec.ofFin (w := 8) b).setWidth 32).sshiftRight 4).toInt = code (BitVec.ofFin (w := 8) b) 1 := by
  decide +kernel

theorem code_even (b : BitVec 8) : ((b.setWidth 32) &&& 15#32).toInt = code b 0 := by
  have h := code_even_fin b.toFin
  rwa [BitVec.ofFin_toFin] at h

theorem code_odd (b : BitVec 8) : ((b.setWidth 32).sshiftRight 4).toInt = code b 1 := by
  have h := code_odd_fin b.toFin
  rwa [BitVec.ofFin_toFin] at h

/-! ## One position of the contracted axis -/

variable (x : FVec Ideal S128x1x8192 .bf16) (w : IVec S4096x7424 8) (s : FVec Ideal S512x7424 .bf16) (z : IVec S512x7424 8)

/-- Position `i`'s contribution to row `b`, column `n` of the product. -/
def term (b : Fin 128) (n : Fin 7424) (i : Fin 8192) : EReal :=
  x (ix3 b (0 : Fin 1) i)
    * ((((code (w (ix2 (⟨i.val / 2, by omega⟩ : Fin 4096) n)) i.val : ℝ) : EReal) - zpt (z (ix2 (⟨i.val / 16, by omega⟩ : Fin 512) n)))
      * s (ix2 (⟨i.val / 16, by omega⟩ : Fin 512) n))

/-- The same at every natural number, zero past the axis. -/
def term' (b : Fin 128) (n : Fin 7424) (i : ℕ) : EReal := if h : i < 8192 then term x w s z b n ⟨i, h⟩ else 0

theorem term'_of_lt (b : Fin 128) (n : Fin 7424) (i : ℕ) (h : i < 8192) : term' x w s z b n i = term x w s z b n ⟨i, h⟩ := dif_pos h

theorem term_even (b : Fin 128) (n : Fin 7424) (j : Fin 4096) :
    x (ix3 b (0 : Fin 1) (⟨2 * j.val, by omega⟩ : Fin 8192))
        * ReferenceIdeal.Hand.deq (andi (extui 32 w ReferenceIdeal.Facts₀.natLt_8_32) (broadcastInDim S4096x7424 ![] ReferenceIdeal.Facts₀.bcast_S_S4096x7424 (constantI ReferenceIdeal.S_ 32 15#32))) s z (ix2 j n)
      = term' x w s z b n (2 * j.val) := by
  rw [term'_of_lt _ _ _ _ _ _ _ (by omega), ReferenceIdeal.Hand.deq_apply, ReferenceIdeal.Hand.low_apply, code_even, term,
    code_congr _ (show (2 * j.val) % 2 = 0 % 2 by omega)]
  have h2 : ∀ h, (⟨2 * j.val / 2, h⟩ : Fin 4096) = j := fun h => Fin.ext (by show 2 * j.val / 2 = j.val; omega)
  have h16 : ∀ h, (⟨2 * j.val / 16, h⟩ : Fin 512) = ⟨j.val / 8, by omega⟩ := fun h => Fin.ext (by show 2 * j.val / 16 = j.val / 8; omega)
  simp only [h2, h16, zpt]

theorem term_odd (b : Fin 128) (n : Fin 7424) (j : Fin 4096) :
    x (ix3 b (0 : Fin 1) (⟨1 + 2 * j.val, by omega⟩ : Fin 8192))
        * ReferenceIdeal.Hand.deq (Host.shrsi (extui 32 w ReferenceIdeal.Facts₀.natLt_8_32) (broadcastInDim S4096x7424 ![] ReferenceIdeal.Facts₀.bcast_S_S4096x7424 (constantI ReferenceIdeal.S_ 32 4#32))) s z (ix2 j n)
      = term' x w s z b n (1 + 2 * j.val) := by
  rw [term'_of_lt _ _ _ _ _ _ _ (by omega), ReferenceIdeal.Hand.deq_apply, ReferenceIdeal.Hand.high_apply, code_odd, term,
    code_congr _ (show (1 + 2 * j.val) % 2 = 1 % 2 by omega)]
  have h2 : ∀ h, (⟨(1 + 2 * j.val) / 2, h⟩ : Fin 4096) = j := fun h => Fin.ext (by show (1 + 2 * j.val) / 2 = j.val; omega)
  have h16 : ∀ h, (⟨(1 + 2 * j.val) / 16, h⟩ : Fin 512) = ⟨j.val / 8, by omega⟩ := fun h => Fin.ext (by show (1 + 2 * j.val) / 16 = j.val / 8; omega)
  simp only [h2, h16, zpt]

/-- The reference's result is the sum over the contracted axis. -/
theorem refOut_sum (b : Fin 128) (n : Fin 7424) :
    ReferenceIdeal.Hand.refOut x w s z (ix2 b n) = ∑ i ∈ range 8192, term' x w s z b n i := by
  have h := sum_parity (term' x w s z b n) 4096
  rw [sum_range (n := 4096), sum_range (n := 4096)] at h
  rw [ReferenceIdeal.Hand.refOut_apply]
  refine Eq.trans ?_ h.symm
  exact congrArg₂ (· + ·) (sum_congr rfl fun j _ => term_even x w s z b n j) (sum_congr rfl fun j _ => term_odd x w s z b n j)

/-! ## The kernel's accumulator -/

variable (m : (ℓ : Loc nD τ sig) → Buf (Elt Ideal) ℓ)

theorem pay1_apply (j : S128x7424.Idx) : k0_pay1 (F := Ideal) j = 0 := by
  pointwise [k0_pay1]

theorem block_term (c : Dev nD) (t : Fin cfg0.N) (b : Fin 128) (n : Fin 7424) (r : Fin 1024) :
    (show EReal from iblk m c 0 t (ix2 b r)) * wt (iblk m c 1 t) (iblk m c 2 t) (iblk m c 3 t) r n
      = term' (m ((c : Thread nD τ).loc main_arg0)) (m ((c : Thread nD τ).loc main_arg1)) (m ((c : Thread nD τ).loc main_arg2))
          (m ((c : Thread nD τ).loc main_arg3)) b n (1024 * t.val + r.val) := by
  have hN := N_lt t
  rw [term'_of_lt _ _ _ _ _ _ _ (by omega), wt, blk0, blk1, blk2, blk3, term,
    code_congr _ (show r.val % 2 = (1024 * t.val + r.val) % 2 by omega)]
  have h2 : ∀ h, (⟨512 * t.val + r.val / 2, h⟩ : Fin 4096) = ⟨(1024 * t.val + r.val) / 2, by omega⟩ := fun h => Fin.ext (by show 512 * t.val + r.val / 2 = (1024 * t.val + r.val) / 2; omega)
  have h16 : ∀ h, (⟨64 * t.val + r.val / 16, h⟩ : Fin 512) = ⟨(1024 * t.val + r.val) / 16, by omega⟩ := fun h => Fin.ext (by show 64 * t.val + r.val / 16 = (1024 * t.val + r.val) / 16; omega)
  simp only [h2, h16]

theorem accVal_sum (c : Dev nD) (b : Fin 128) (n : Fin 7424) :
    ∀ k : ℕ, k ≤ cfg0.N → accVal m c k (ix2 b n)
      = ∑ t ∈ range k, ∑ r ∈ range 1024,
          term' (m ((c : Thread nD τ).loc main_arg0)) (m ((c : Thread nD τ).loc main_arg1)) (m ((c : Thread nD τ).loc main_arg2))
            (m ((c : Thread nD τ).loc main_arg3)) b n (1024 * t + r)
  | 0, _ => by
    rw [accVal, range_zero, sum_empty]
    exact pay1_apply _
  | k + 1, h => by
    rw [sum_range_succ, ← accVal_sum c b n k (by omega), accVal_succ m c ⟨k, h⟩, stepVal, sum_range]
    exact congrArg (accVal m c k (ix2 b n) + ·) (sum_congr rfl fun r _ => block_term m c ⟨k, h⟩ b n r)

/-- The kernel's accumulator after the eight points is the reference's result. -/
theorem accVal_eq_refOut (c : Dev nD) :
    accVal m c 8 = ReferenceIdeal.Hand.refOut (m ((c : Thread nD τ).loc main_arg0)) (m ((c : Thread nD τ).loc main_arg1))
      (m ((c : Thread nD τ).loc main_arg2)) (m ((c : Thread nD τ).loc main_arg3)) := by
  funext j
  rw [eq_ix2 j]
  refine (accVal_sum m c _ _ 8 (by rw [show cfg0.N = 8 from N_0])).trans ?_
  rw [sum_blocks]
  exact (refOut_sum _ _ _ _ _ _).symm

end Cert.KernelIdeal.Hand

end
-- ==== Proof.CombineValue.lean ====
module

public import proofs.«01_k».proof.Defs
public import proofs.«01_k».proof.Proof.Gen.CombineIdeal.Value
public import proofs.«01_k».proof.Proof.Gen.CombineReferenceIdeal.Run
public import Idealize.ShloMosaic.Lib.Pointwise
public import Idealize.ShloMosaic.Lib.Pipeline.ValueKit

@[expose] public section

/-! The sum of the two products: what the blocked kernel leaves in its result array is the first product plus the second
    one transposed, rounded, which is what its reference computes. -/

noncomputable section

namespace Cert.CombineIdeal.Hand

open Cert.CombineIdeal Cert.CombineIdeal.Gen
open Idealize.ShloMosaic Idealize.ShloMosaic.TcCoe Idealize.ShloMosaic.Tactic Idealize.SL.Sem
open Idealize.ShloMosaic.Pipeline

variable {F : FTy → Type} [FloatOps F]
variable (m : (ℓ : Loc nD τ sig) → Buf (Elt F) ℓ)

/-- The sum of the first array and the transposed second one, rounded, element by element. -/
def total (x : S128x7424.Idx → F .f32) (y : S7424x128.Idx → F .f32) : S128x7424.Idx → F .bf16 :=
  fun i => FloatOps.truncf .bf16 bitsLt_bf16_f32 (FloatOps.addf (x i) (y (ix2 (i 1) (i 0))))

theorem index0 : ∀ t : Fin cfg0.N, win0_0.index t = ![0, t.val] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, t.val] := (by decide +kernel : ∀ t : Fin grid0.N, _)

theorem N_lt (t : Fin cfg0.N) : t.val < 29 := lt_of_lt_of_eq t.isLt (show cfg0.N = 29 from N_0)

/-- Columns of the first array: block `t` starts at column `256 t`. -/
theorem blk0 (c : Dev nD) (t : Fin cfg0.N) (b : Fin 128) (j : Fin 256) :
    iblk m c 0 t (ix2 b j) = m ((c : Thread nD τ).loc main_arg0) (ix2 b (⟨256 * t.val + j.val, by have := N_lt t; omega⟩ : Fin 7424)) := by
  blk_ext [iblk, index0]

/-- Rows of the second array: block `t` starts at row `256 t`. -/
theorem blk1 (c : Dev nD) (t : Fin cfg0.N) (j : Fin 256) (b : Fin 128) :
    iblk m c 1 t (ix2 j b) = m ((c : Thread nD τ).loc main_arg1) (ix2 (⟨256 * t.val + j.val, by have := N_lt t; omega⟩ : Fin 7424) b) := by
  blk_ext [iblk, index1]

/-- What point `t` leaves in its block, element by element. -/
theorem out_apply (x : Vec F S128x256 .f32) (y : Vec F S256x128 .f32) (b : Fin 128) (j : Fin 256) :
    out0_2 x y (ix2 b j) = FloatOps.truncf .bf16 bitsLt_bf16_f32 (FloatOps.addf (x (ix2 b j)) (y (ix2 j b))) := by
  have hz : (![0, 0] : Fin 2 → Nat) = fun _ => 0 := by decide
  unfold out0_2
  rw [View.ld_unit_zero hz, View.ld_unit_zero hz, Value.canon2_eq]
  refine congrArg₂ (fun u v => FloatOps.truncf .bf16 bitsLt_bf16_f32 (FloatOps.addf (x u) (y v))) ?_ ?_ <;>
    · funext a; fin_cases a <;> rfl

/-- The result array after the run. -/
theorem arr_out (c : Dev nD) :
    (dats m 0 c).arrAt 2 cfg0.N = total (m ((c : Thread nD τ).loc main_arg0)) (m ((c : Thread nD τ).loc main_arg1)) := by
  refine (dats m 0 c).arrAt_eq_of_covers 2 _ (by decide +kernel) fun t hf y => ?_
  blk_simp
  rw [after0_2]
  obtain ⟨b, j, rfl⟩ : ∃ (b : Fin 128) (j : Fin 256), y = ix2 b j := ⟨y 0, y 1, eq_ix2 y⟩
  refine (out_apply _ _ b j).trans ?_
  rw [blk0, blk1]
  refine Eq.trans ?_ (congrArg (total (m ((c : Thread nD τ).loc main_arg0)) (m ((c : Thread nD τ).loc main_arg1)))
    (?_ : ix2 b (⟨256 * t.val + j.val, by have := N_lt t; omega⟩ : Fin 7424) = _))
  · rfl
  · funext a
    fin_cases a <;> refine Fin.ext ?_ <;> dsimp only <;> blk_simp [index2]
    exact congrArg (· + j.val) (Nat.mul_comm 256 t.val)

/-- The reference's result, element by element. -/
theorem reference_eq (x : S128x7424.Idx → F .f32) (y : S7424x128.Idx → F .f32) (h) (h') :
    truncf .bf16 (addf (s := S128x7424) x (transpose S128x7424 [1, 0] y h)) h' = total x y := by
  funext i
  obtain ⟨b, j, rfl⟩ : ∃ (b : Fin 128) (j : Fin 7424), i = ix2 b j := ⟨i 0, i 1, eq_ix2 i⟩
  unfold total
  pointwise

/-- The blocked sum and its reference end with equal results. -/
theorem algebraic : Cert.algebraic_CombineIdeal_CombineReferenceIdeal := by
  intro m g m' g' _ hagree
  refine ⟨fun c => total (F := Ideal) (m ((c : Thread nD τ).loc main_arg0)) (m ((c : Thread nD τ).loc main_arg1)), ?_, ?_⟩
  · exact (θ_run _ _ _).mono (fun r h c => ⟨(h c).1.trans (arr_out m c), (h c).2⟩) (Value.run_blocks m g)
  · refine (θ_run _ _ _).mono (fun r h c => ⟨(h c).1.trans ?_, (h c).2⟩) (Cert.CombineReferenceIdeal.Value.run m' g')
    rw [(hagree c).1, (hagree c).2]
    exact reference_eq _ _ _ _

end Cert.CombineIdeal.Hand

end
-- ==== Proof.lean ====
module

public import proofs.«01_k».proof.Defs
public import proofs.«01_k».proof.Proof.KernelFrame
public import proofs.«01_k».proof.Proof.IdealFrame
public import proofs.«01_k».proof.Proof.ReferenceValue
public import proofs.«01_k».proof.Proof.Algebra
public import proofs.«01_k».proof.Proof.Gen.Combine.Frame
public import proofs.«01_k».proof.Proof.CombineValue
public import Idealize.ShloMosaic.Lib.Bf16PairInverse
public import Idealize.ShloMosaic.Adequacy
public import Idealize.ShloMosaic.Init

@[expose] public section

noncomputable section

namespace Cert.Proof

open Idealize.ShloMosaic Idealize.ShloMosaic.TcCoe Idealize.SL.Sem

/-- The rewriting rules hold at each shape they were applied at: the two scratch buffers of packed words read as rows,
    the loads, stores and bit-casts between words and rows, and the packing of a pair into a word. -/
theorem preserves : Cert.preserves_Kernel_KernelIdeal :=
  open Cert.KernelIdeal IdealRules.bf16_pair in
  ⟨bufferStatement S64x2x1024 S64x1x1024, bufferStatement S58x64x2x128 S58x64x1x128, statement S128x1024 S64x1024,
    statement S64x2x1024 S64x1x1024, packStatement S64x128, statement S1x64x2x128 S1x64x1x128,
    statement S1x1x2x128 S1x1x1x128, statement S2x128 S1x128⟩

/-- The idealized kernel and the reference end with equal results. -/
theorem algebraic : Cert.algebraic_KernelIdeal_ReferenceIdeal := by
  intro m g m' g' _ hagree
  refine ⟨fun c => Cert.KernelIdeal.Hand.accVal m c 8, ?_, ?_⟩
  · refine (θ_run _ _ _).mono (fun r h c => ⟨?_, h.2.1 c⟩)
      (θ_run_and (Cert.KernelIdeal.Hand.run_main m g) (Cert.KernelIdeal.Hand.frame m g))
    exact (h.1.1.out_eq c 4).trans (Cert.KernelIdeal.Hand.arr_out m c)
  · refine (θ_run _ _ _).mono (fun r h c => ⟨?_, (h.1 c).2⟩) (Cert.ReferenceIdeal.Hand.run m' g')
    obtain ⟨h0, h1, h2, h3⟩ := hagree c
    refine (h.1 c).1.trans ?_
    rw [h0, h1, h2, h3]
    exact (Cert.KernelIdeal.Hand.accVal_eq_refOut m c).symm

theorem claim : Cert.Claim :=
  ⟨Cert.Kernel.Gen.facts, Cert.KernelIdeal.Gen.facts, Cert.ReferenceIdeal.Gen.facts,
    Cert.Combine.Gen.facts, Cert.CombineIdeal.Gen.facts, Cert.CombineReferenceIdeal.Gen.facts,
    fun m ρ _ => Cert.Kernel.Hand.frame m ρ,
    fun m ρ _ => Cert.KernelIdeal.Hand.frame m ρ,
    fun m ρ _ => (θ_run _ _ _).mono (fun _ h => ⟨fun c => (h.1 c).2, h.2⟩) (Cert.ReferenceIdeal.Hand.run m ρ),
    fun m ρ _ => Cert.Combine.Gen.frame m ρ,
    fun m ρ _ => Cert.CombineIdeal.Gen.frame m ρ,
    fun m ρ _ => (θ_run _ _ _).mono (fun r h => ⟨fun c => (h c).2, sem_eq_zero_of_no_sems (by decide) r.2⟩)
      (Cert.CombineReferenceIdeal.Value.run m ρ),
    preserves, algebraic, trivial, Cert.CombineIdeal.Hand.algebraic⟩

end Cert.Proof

end
